-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_count" .f32 0x3EFFFFAC#32 ((274877906944 / 549758562667 : ℝ) : EReal)
  ∧ IdealRules.named_const.Statement Cert.KernelIdeal.κ "loss_scale" .f32 0x2E8BCF65#32 ((13743895 / 216172782113783808 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x768 : Shape := ⟨3, ![1, 2048, 768]⟩
abbrev S12x2x64 : Shape := ⟨3, ![12, 2, 64]⟩
abbrev S12x2x1x64 : Shape := ⟨4, ![12, 2, 1, 64]⟩
abbrev S_ : Shape := ⟨0, ![]⟩

class Facts : Prop where
  bcast_S_S1x2048x768 : S_.BroadcastsInDim S1x2048x768 (![] : Fin 0 → Fin S1x2048x768.rank)
  bcast_S_S12x2x64 : S_.BroadcastsInDim S12x2x64 (![] : Fin 0 → Fin S12x2x64.rank)
  bcast_S_S12x2x1x64 : S_.BroadcastsInDim S12x2x1x64 (![] : Fin 0 → Fin S12x2x1x64.rank)

variable [Facts]

def fn {F : FTy → Type} [FloatOps F] (main_arg0 : FVec F S1x2048x768 .f32) (main_arg1 : FVec F S1x2048x768 .f32) (main_arg2 : FVec F S1x2048x768 .f32) (main_arg3 : FVec F S12x2x64 .f32) (main_arg4 : FVec F S12x2x1x64 .f32) (main_arg5 : FVec F S12x2x1x64 .f32) : IVec S1x2048x768 1 × IVec S1x2048x768 1 × IVec S1x2048x768 1 × IVec S12x2x64 1 × IVec S12x2x1x64 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_v3 : FVec F S1x2048x768 .f32 := Host.absf main_arg1
  let main_cst_0 : FVec F S_ .f32 := constant S_ .f32 0x7F800000#32
  let main_v4 : FVec F S1x2048x768 .f32 := broadcastInDim S1x2048x768 ![] bcast_S_S1x2048x768 main_cst_0
  let main_v5 : IVec S1x2048x768 1 := cmpf .olt main_v3 main_v4
  let main_v6 : FVec F S1x2048x768 .f32 := Host.absf main_arg2
  let main_cst_1 : FVec F S_ .f32 := constant S_ .f32 0x7F800000#32
  let main_v7 : FVec F S1x2048x768 .f32 := broadcastInDim S1x2048x768 ![] bcast_S_S1x2048x768 main_cst_1
  let main_v8 : IVec S1x2048x768 1 := cmpf .olt main_v6 main_v7
  let main_v9 : FVec F S12x2x64 .f32 := Host.absf main_arg3
  let main_cst_2 : FVec F S_ .f32 := constant S_ .f32 0x7F800000#32
  let main_v10 : FVec F S12x2x64 .f32 := broadcastInDim S12x2x64 ![] bcast_S_S12x2x64 main_cst_2
  let main_v11 : IVec S12x2x64 1 := cmpf .olt main_v9 main_v10
  let main_v12 : FVec F S12x2x1x64 .f32 := Host.absf main_arg4
  let main_cst_3 : FVec F S_ .f32 := constant S_ .f32 0x7F800000#32
  let main_v13 : FVec F S12x2x1x64 .f32 := broadcastInDim S12x2x1x64 ![] bcast_S_S12x2x1x64 main_cst_3
  let main_v14 : IVec S12x2x1x64 1 := cmpf .olt main_v12 main_v13
  (main_v2, main_v5, main_v8, main_v11, main_v14)
-- ==== Kernel.lean ====
abbrev S1x2048x768 : Shape := ⟨3, ![1, 2048, 768]⟩
abbrev S12x2x64 : Shape := ⟨3, ![12, 2, 64]⟩
abbrev S12x2x1x64 : Shape := ⟨4, ![12, 2, 1, 64]⟩
abbrev S12x2048x64 : Shape := ⟨3, ![12, 2048, 64]⟩
abbrev S_ : Shape := ⟨0, ![]⟩
abbrev S12x1x1 : Shape := ⟨3, ![12, 1, 1]⟩
abbrev S1x2048x64 : Shape := ⟨3, ![1, 2048, 64]⟩
abbrev S1x2x64 : Shape := ⟨3, ![1, 2, 64]⟩
abbrev S1x1x1 : Shape := ⟨3, ![1, 1, 1]⟩
abbrev S2048x64 : Shape := ⟨2, ![2048, 64]⟩
abbrev S2048x1 : Shape := ⟨2, ![2048, 1]⟩
abbrev S2048x65 : Shape := ⟨2, ![2048, 65]⟩
abbrev S2048x2048 : Shape := ⟨2, ![2048, 2048]⟩
abbrev S2x64 : Shape := ⟨2, ![2, 64]⟩
abbrev S2048x2 : Shape := ⟨2, ![2048, 2]⟩
abbrev S2048 : Shape := ⟨1, ![2048]⟩
abbrev S1x2048 : Shape := ⟨2, ![1, 2048]⟩
abbrev S1 : Shape := ⟨1, ![1]⟩
abbrev S1x1 : Shape := ⟨2, ![1, 1]⟩
abbrev S2 : Shape := ⟨1, ![2]⟩
abbrev S1x2 : Shape := ⟨2, ![1, 2]⟩
abbrev S1x64 : Shape := ⟨2, ![1, 64]⟩
abbrev S64 : Shape := ⟨1, ![64]⟩
abbrev S1x12x2048x64 : Shape := ⟨4, ![1, 12, 2048, 64]⟩

abbrev nBuf : Space → Nat
  | .hbm => 22
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S12x2x64, .f32⟩
  | .hbm, ⟨4, _⟩ => ⟨S12x2x1x64, .f32⟩
  | .hbm, ⟨5, _⟩ => ⟨S12x2x1x64, .f32⟩
  | .hbm, ⟨6, _⟩ => ⟨S12x2048x64, .f32⟩
  | .hbm, ⟨7, _⟩ => ⟨S_, .f32⟩
  | .hbm, ⟨8, _⟩ => ⟨S12x2048x64, .f32⟩
  | .hbm, ⟨9, _⟩ => ⟨S12x2048x64, .f32⟩
  | .hbm, ⟨10, _⟩ => ⟨S12x2048x64, .bf16⟩
  | .hbm, ⟨11, _⟩ => ⟨S12x2048x64, .f32⟩
  | .hbm, ⟨12, _⟩ => ⟨S12x2048x64, .bf16⟩
  | .hbm, ⟨13, _⟩ => ⟨S12x2048x64, .f32⟩
  | .hbm, ⟨14, _⟩ => ⟨S12x2048x64, .bf16⟩
  | .hbm, ⟨15, _⟩ => ⟨S12x2x64, .f32⟩
  | .hbm, ⟨16, _⟩ => ⟨S12x2x64, .f32⟩
  | .hbm, ⟨17, _⟩ => ⟨S12x2048x64, .f32⟩
  | .hbm, ⟨18, _⟩ => ⟨S12x1x1, .f32⟩
  | .hbm, ⟨19, _⟩ => ⟨S1x12x2048x64, .f32⟩
  | .hbm, ⟨20, _⟩ => ⟨S_, .f32⟩
  | .hbm, ⟨21, _⟩ => ⟨S_, .f32⟩
  | .local _ .vmem, ⟨0, _⟩ => ⟨S1x2048x64, .bf16⟩
  | .local _ .vmem, ⟨1, _⟩ => ⟨S1x2048x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x2x64, .f32⟩
  | .local _ .vmem, ⟨7, _⟩ => ⟨S1x2x64, .f32⟩
  | .local _ .vmem, ⟨8, _⟩ => ⟨S1x2x64, .f32⟩
  | .local _ .vmem, ⟨9, _⟩ => ⟨S1x2x64, .f32⟩
  | .local _ .vmem, ⟨10, _⟩ => ⟨S1x2x64, .f32⟩
  | .local _ .vmem, ⟨11, _⟩ => ⟨S1x2x64, .f32⟩
  | .local _ .vmem, ⟨12, _⟩ => ⟨S1x2048x64, .f32⟩
  | .local _ .vmem, ⟨13, _⟩ => ⟨S1x2048x64, .f32⟩
  | .local _ .vmem, ⟨14, _⟩ => ⟨S1x1x1, .f32⟩
  | .local _ .vmem, ⟨15, _⟩ => ⟨S1x1x1, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_count" => some ((274877906944 / 549758562667 : ℝ) : EReal)
  | "loss_scale" => some ((13743895 / 216172782113783808 : ℝ) : EReal)
  | _ => none
-- ==== ReferenceIdeal.lean ====
abbrev S1x2048x768 : Shape := ⟨3, ![1, 2048, 768]⟩
abbrev S12x2x64 : Shape := ⟨3, ![12, 2, 64]⟩
abbrev S12x2x1x64 : Shape := ⟨4, ![12, 2, 1, 64]⟩
abbrev S1x12x2048x64 : Shape := ⟨4, ![1, 12, 2048, 64]⟩
abbrev S_ : Shape := ⟨0, ![]⟩
abbrev S1x12x2048 : Shape := ⟨3, ![1, 12, 2048]⟩
abbrev S1x12x2048x1 : Shape := ⟨4, ![1, 12, 2048, 1]⟩
abbrev S12x2 : Shape := ⟨2, ![12, 2]⟩
abbrev S12x2x1x2048 : Shape := ⟨4, ![12, 2, 1, 2048]⟩
abbrev S1x12x2048x2 : Shape := ⟨4, ![1, 12, 2048, 2]⟩
abbrev S1x12x1x2 : Shape := ⟨4, ![1, 12, 1, 2]⟩
abbrev S12 : Shape := ⟨1, ![12]⟩
abbrev S1x12x1 : Shape := ⟨3, ![1, 12, 1]⟩
abbrev S1x12x2x2048 : Shape := ⟨4, ![1, 12, 2, 2048]⟩
abbrev S1x12x4096 : Shape := ⟨3, ![1, 12, 4096]⟩
abbrev S1x12x4096x1 : Shape := ⟨4, ![1, 12, 4096, 1]⟩
abbrev S12x4096x1 : Shape := ⟨3, ![12, 4096, 1]⟩
abbrev S1 : Shape := ⟨1, ![1]⟩
abbrev S1x1x1 : Shape := ⟨3, ![1, 1, 1]⟩
abbrev S12x4096 : Shape := ⟨2, ![12, 4096]⟩
abbrev S1x12x4096x64 : Shape := ⟨4, ![1, 12, 4096, 64]⟩
abbrev S1x12x2x2048x64 : Shape := ⟨5, ![1, 12, 2, 2048, 64]⟩
abbrev S1x12x2x1x64 : Shape := ⟨5, ![1, 12, 2, 1, 64]⟩
abbrev S1x12x2x2049x64 : Shape := ⟨5, ![1, 12, 2, 2049, 64]⟩
abbrev S1x12x2x2048x2049 : Shape := ⟨5, ![1, 12, 2, 2048, 2049]⟩
abbrev S1x12x2x1 : Shape := ⟨4, ![1, 12, 2, 1]⟩
abbrev S1x12x2x2049 : Shape := ⟨4, ![1, 12, 2, 2049]⟩
abbrev S1x12x2x2048x1 : Shape := ⟨5, ![1, 12, 2, 2048, 1]⟩
abbrev S1x12x2x1x2049 : Shape := ⟨5, ![1, 12, 2, 1, 2049]⟩
abbrev S1x12x4096x3 : Shape := ⟨4, ![1, 12, 4096, 3]⟩

abbrev nBuf : Space → Nat
  | .hbm => 259
  | .vmem => 0
  | .smem => 0
  | _ => 0

abbrev hbmTy0_0 (i : Nat) : BufTy := match i % 128 with
  | 0 => ⟨S1x2048x768, .f32⟩
  | 1 => ⟨S1x2048x768, .f32⟩
  | 2 => ⟨S1x2048x768, .f32⟩
  | 3 => ⟨S12x2x64, .f32⟩
  | 4 => ⟨S12x2x1x64, .f32⟩
  | 5 => ⟨S12x2x1x64, .f32⟩
  | 6 => ⟨S1x12x2048x64, .f32⟩
  | 7 => ⟨S1x12x2048x64, .f32⟩
  | 8 => ⟨S1x12x2048x64, .f32⟩
  | 9 => ⟨S1x12x2048x64, .f32⟩
  | 10 => ⟨S_, .f32⟩
  | 11 => ⟨S1x12x2048, .f32⟩
  | 12 => ⟨S1x12x2048x1, .f32⟩
  | 13 => ⟨S1x12x2048x1, .f32⟩
  | 14 => ⟨S_, .f32⟩
  | 15 => ⟨S1x12x2048x1, .f32⟩
  | 16 => ⟨S1x12x2048x1, .f32⟩
  | 17 => ⟨S1x12x2048x64, .f32⟩
  | 18 => ⟨S1x12x2048x64, .f32⟩
  | 19 => ⟨S1x12x2048x64, .f32⟩
  | 20 => ⟨S_, .f32⟩
  | 21 => ⟨S1x12x2048, .f32⟩
  | 22 => ⟨S1x12x2048x1, .f32⟩
  | 23 => ⟨S12x2x64, .f32⟩
  | 24 => ⟨S_, .f32⟩
  | 25 => ⟨S12x2, .f32⟩
  | 26 => ⟨S12x2x1x2048, .f32⟩
  | 27 => ⟨S1x12x2048x2, .f32⟩
  | 28 => ⟨S1x12x1x2, .f32⟩
  | 29 => ⟨S1x12x2048x2, .f32⟩
  | 30 => ⟨S1x12x2048x2, .f32⟩
  | 31 => ⟨S1x12x2048x2, .f32⟩
  | 32 => ⟨S_, .f32⟩
  | 33 => ⟨S1x12x2048x2, .f32⟩
  | 34 => ⟨S1x12x2048x2, .f32⟩
  | 35 => ⟨S1x12x2048x2, .f32⟩
  | 36 => ⟨S_, .f32⟩
  | 37 => ⟨S1x12x2048x2, .f32⟩
  | 38 => ⟨S1x12x2048x2, .f32⟩
  | 39 => ⟨S1x12x2048x2, .f32⟩
  | 40 => ⟨S1x12x2048x2, .i32⟩
  | 41 => ⟨S_, .f32⟩
  | 42 => ⟨S_, .i32⟩
  | 43 => ⟨S1x12x2048, .f32⟩
  | 44 => ⟨S1x12x2048, .i32⟩
  | 45 => ⟨S12, .i32⟩
  | 46 => ⟨S1x12x1, .i32⟩
  | 47 => ⟨S_, .i32⟩
  | 48 => ⟨S1x12x1, .i32⟩
  | 49 => ⟨S1x12x1, .i1⟩
  | 50 => ⟨S_, .i32⟩
  | 51 => ⟨S1x12x1, .i32⟩
  | 52 => ⟨S1x12x1, .i32⟩
  | 53 => ⟨S1x12x1, .i32⟩
  | 54 => ⟨S_, .i32⟩
  | 55 => ⟨S1x12x2048, .i32⟩
  | 56 => ⟨S1x12x2048, .i1⟩
  | 57 => ⟨S_, .i32⟩
  | 58 => ⟨S1x12x2048, .i32⟩
  | 59 => ⟨S1x12x2048, .i32⟩
  | 60 => ⟨S1x12x2048, .i32⟩
  | 61 => ⟨S1x12x2048, .i32⟩
  | 62 => ⟨S1x12x2048x1, .i32⟩
  | 63 => ⟨S1x12x2048x1, .i32⟩
  | 64 => ⟨S1x12x2048x2, .i32⟩
  | 65 => ⟨S1x12x2048x64, .f32⟩
  | 66 => ⟨S1x12x2048x64, .f32⟩
  | 67 => ⟨S1x12x2048x64, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S1x12x2x2048, .f32⟩
  | 75 => ⟨S1x12x2x2048, .f32⟩
  | 76 => ⟨S1x12x2x2048, .i32⟩
  | 77 => ⟨S1x12x4096, .i32⟩
  | 78 => ⟨S1x12x4096x1, .i32⟩
  | 79 => ⟨S_, .i32⟩
  | 80 => ⟨S1x12x4096x1, .i32⟩
  | 81 => ⟨S1x12x4096x1, .i1⟩
  | 82 => ⟨S_, .i32⟩
  | 83 => ⟨S1x12x4096x1, .i32⟩
  | 84 => ⟨S1x12x4096x1, .i32⟩
  | 85 => ⟨S1x12x4096x1, .i32⟩
  | 86 => ⟨S12x4096x1, .i32⟩
  | 87 => ⟨S1, .i32⟩
  | 88 => ⟨S_, .i32⟩
  | 89 => ⟨S12x4096x1, .i32⟩
  | 90 => ⟨S12x4096x1, .i1⟩
  | 91 => ⟨S1x1x1, .i32⟩
  | 92 => ⟨S12x4096x1, .i32⟩
  | 93 => ⟨S12x4096x1, .i1⟩
  | 94 => ⟨S12x4096x1, .i1⟩
  | 95 => ⟨S_, .i1⟩
  | 96 => ⟨S12x4096, .i1⟩
  | 97 => ⟨S1x12x4096x64, .f32⟩
  | 98 => ⟨S1x12x4096x64, .i1⟩
  | 99 => ⟨S_, .f32⟩
  | 100 => ⟨S1x12x4096x64, .f32⟩
  | 101 => ⟨S1x12x4096x64, .f32⟩
  | 102 => ⟨S1x12x2x2048x64, .f32⟩
  | 103 => ⟨S1x12x4096x1, .i32⟩
  | 104 => ⟨S_, .i32⟩
  | 105 => ⟨S1x12x4096x1, .i32⟩
  | 106 => ⟨S1x12x4096x1, .i1⟩
  | 107 => ⟨S_, .i32⟩
  | 108 => ⟨S1x12x4096x1, .i32⟩
  | 109 => ⟨S1x12x4096x1, .i32⟩
  | 110 => ⟨S1x12x4096x1, .i32⟩
  | 111 => ⟨S12x4096x1, .i32⟩
  | 112 => ⟨S1, .i32⟩
  | 113 => ⟨S_, .i32⟩
  | 114 => ⟨S12x4096x1, .i32⟩
  | 115 => ⟨S12x4096x1, .i1⟩
  | 116 => ⟨S1x1x1, .i32⟩
  | 117 => ⟨S12x4096x1, .i32⟩
  | 118 => ⟨S12x4096x1, .i1⟩
  | 119 => ⟨S12x4096x1, .i1⟩
  | 120 => ⟨S_, .i1⟩
  | 121 => ⟨S12x4096, .i1⟩
  | 122 => ⟨S1x12x4096x64, .f32⟩
  | 123 => ⟨S1x12x4096x64, .i1⟩
  | 124 => ⟨S_, .f32⟩
  | 125 => ⟨S1x12x4096x64, .f32⟩
  | 126 => ⟨S1x12x4096x64, .f32⟩
  | 127 => ⟨S1x12x2x2048x64, .f32⟩
  | _ => ⟨S1x2048x768, .f32⟩

abbrev hbmTy0_1 (i : Nat) : BufTy := match i % 128 with
  | 0 => ⟨S1x12x4096x1, .i32⟩
  | 1 => ⟨S_, .i32⟩
  | 2 => ⟨S1x12x4096x1, .i32⟩
  | 3 => ⟨S1x12x4096x1, .i1⟩
  | 4 => ⟨S_, .i32⟩
  | 5 => ⟨S1x12x4096x1, .i32⟩
  | 6 => ⟨S1x12x4096x1, .i32⟩
  | 7 => ⟨S1x12x4096x1, .i32⟩
  | 8 => ⟨S12x4096x1, .i32⟩
  | 9 => ⟨S1, .i32⟩
  | 10 => ⟨S_, .i32⟩
  | 11 => ⟨S12x4096x1, .i32⟩
  | 12 => ⟨S12x4096x1, .i1⟩
  | 13 => ⟨S1x1x1, .i32⟩
  | 14 => ⟨S12x4096x1, .i32⟩
  | 15 => ⟨S12x4096x1, .i1⟩
  | 16 => ⟨S12x4096x1, .i1⟩
  | 17 => ⟨S_, .i1⟩
  | 18 => ⟨S12x4096, .i1⟩
  | 19 => ⟨S1x12x4096x64, .f32⟩
  | 20 => ⟨S1x12x4096x64, .i1⟩
  | 21 => ⟨S_, .f32⟩
  | 22 => ⟨S1x12x4096x64, .f32⟩
  | 23 => ⟨S1x12x4096x64, .f32⟩
  | 24 => ⟨S1x12x2x2048x64, .f32⟩
  | 25 => ⟨S1x12x2x1x64, .f32⟩
  | 26 => ⟨S1x12x2x1x64, .f32⟩
  | 27 => ⟨S1x12x2x2049x64, .f32⟩
  | 28 => ⟨S1x12x2x2049x64, .f32⟩
  | 29 => ⟨S1x12x2x2048x2049, .f32⟩
  | 30 => ⟨S_, .f32⟩
  | 31 => ⟨S1x12x2x2048x2049, .f32⟩
  | 32 => ⟨S1x12x2x2048x2049, .f32⟩
  | 33 => ⟨S_, .i32⟩
  | 34 => ⟨S1x12x2x1, .i32⟩
  | 35 => ⟨S1x12x2x2049, .i32⟩
  | 36 => ⟨S1x12x2x2048x1, .i32⟩
  | 37 => ⟨S1x12x2x1x2049, .i32⟩
  | 38 => ⟨S1x12x2x2048x2049, .i32⟩
  | 39 => ⟨S1x12x2x2048x2049, .i32⟩
  | 40 => ⟨S1x12x2x2048x2049, .i1⟩
  | 41 => ⟨S_, .f32⟩
  | 42 => ⟨S_, .f32⟩
  | 43 => ⟨S1x12x2x2048x2049, .f32⟩
  | 44 => ⟨S1x12x2x2048x2049, .f32⟩
  | 45 => ⟨S_, .f32⟩
  | 46 => ⟨S1x12x2x2048, .f32⟩
  | 47 => ⟨S_, .f32⟩
  | 48 => ⟨S1x12x2x2048, .f32⟩
  | 49 => ⟨S1x12x2x2048, .f32⟩
  | 50 => ⟨S1x12x2x2048x1, .f32⟩
  | 51 => ⟨S1x12x2x2048x2049, .f32⟩
  | 52 => ⟨S1x12x2x2048x2049, .f32⟩
  | 53 => ⟨S1x12x2x2048x2049, .f32⟩
  | 54 => ⟨S_, .f32⟩
  | 55 => ⟨S1x12x2x2048, .f32⟩
  | 56 => ⟨S1x12x2x2048x1, .f32⟩
  | 57 => ⟨S1x12x2x2048x2049, .f32⟩
  | 58 => ⟨S1x12x2x2048x2049, .f32⟩
  | 59 => ⟨S1x12x2x2048x64, .f32⟩
  | 60 => ⟨S1x12x4096x64, .f32⟩
  | 61 => ⟨S1, .i32⟩
  | 62 => ⟨S1x1x1, .i32⟩
  | 63 => ⟨S12, .i32⟩
  | 64 => ⟨S1x12x1, .i32⟩
  | 65 => ⟨S_, .f32⟩
  | 66 => ⟨S1x12x2048x64, .f32⟩
  | 67 => ⟨S_, .i32⟩
  | 68 => ⟨S1x1x1, .i32⟩
  | 69 => ⟨S1x1x1, .i1⟩
  | 70 => ⟨S_, .i32⟩
  | 71 => ⟨S1x1x1, .i32⟩
  | 72 => ⟨S1x1x1, .i32⟩
  | 73 => ⟨S1x1x1, .i32⟩
  | 74 => ⟨S_, .i32⟩
  | 75 => ⟨S1x12x1, .i32⟩
  | 76 => ⟨S1x12x1, .i1⟩
  | 77 => ⟨S_, .i32⟩
  | 78 => ⟨S1x12x1, .i32⟩
  | 79 => ⟨S1x12x1, .i32⟩
  | 80 => ⟨S1x12x1, .i32⟩
  | 81 => ⟨S_, .i32⟩
  | 82 => ⟨S1x12x4096, .i32⟩
  | 83 => ⟨S1x12x4096, .i1⟩
  | 84 => ⟨S_, .i32⟩
  | 85 => ⟨S1x12x4096, .i32⟩
  | 86 => ⟨S1x12x4096, .i32⟩
  | 87 => ⟨S1x12x4096, .i32⟩
  | 88 => ⟨S1x12x4096, .i32⟩
  | 89 => ⟨S1x12x4096, .i32⟩
  | 90 => ⟨S1x12x4096x1, .i32⟩
  | 91 => ⟨S1x12x4096x1, .i32⟩
  | 92 => ⟨S1x12x4096x1, .i32⟩
  | 93 => ⟨S1x12x4096x3, .i32⟩
  | 94 => ⟨S1x12x2048x64, .f32⟩
  | 95 => ⟨S_, .f32⟩
  | 96 => ⟨S1x12x2048x64, .f32⟩
  | 97 => ⟨S_, .f32⟩
  | 98 => ⟨S1x12x4096x64, .f32⟩
  | 99 => ⟨S_, .i32⟩
  | 100 => ⟨S1x1x1, .i32⟩
  | 101 => ⟨S1x1x1, .i1⟩
  | 102 => ⟨S_, .i32⟩
  | 103 => ⟨S1x1x1, .i32⟩
  | 104 => ⟨S1x1x1, .i32⟩
  | 105 => ⟨S1x1x1, .i32⟩
  | 106 => ⟨S_, .i32⟩
  | 107 => ⟨S1x12x1, .i32⟩
  | 108 => ⟨S1x12x1, .i1⟩
  | 109 => ⟨S_, .i32⟩
  | 110 => ⟨S1x12x1, .i32⟩
  | 111 => ⟨S1x12x1, .i32⟩
  | 112 => ⟨S1x12x1, .i32⟩
  | 113 => ⟨S_, .i32⟩
  | 114 => ⟨S1x12x4096, .i32⟩
  | 115 => ⟨S1x12x4096, .i1⟩
  | 116 => ⟨S_, .i32⟩
  | 117 => ⟨S1x12x4096, .i32⟩
  | 118 => ⟨S1x12x4096, .i32⟩
  | 119 => ⟨S1x12x4096, .i32⟩
  | 120 => ⟨S1x12x4096, .i32⟩
  | 121 => ⟨S1x12x4096, .i32⟩
  | 122 => ⟨S1x12x4096x1, .i32⟩
  | 123 => ⟨S1x12x4096x1, .i32⟩
  | 124 => ⟨S1x12x4096x1, .i32⟩
  | 125 => ⟨S1x12x4096x3, .i32⟩
  | 126 => ⟨S1x12x2048x64, .f32⟩
  | 127 => ⟨S_, .f32⟩
  | _ => ⟨S1x2048x768, .f32⟩

abbrev hbmTy0_2 (i : Nat) : BufTy := match i % 128 with
  | 0 => ⟨S1x12x2048x64, .f32⟩
  | 1 => ⟨S1x12x2048x64, .f32⟩
  | 2 => ⟨S1x12x2048x64, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_v0 : Ref sig .tc := ⟨.hbm, 40, rfl⟩
abbrev main_call1_cst : Ref sig .tc := ⟨.hbm, 41, rfl⟩
abbrev main_call1_c : Ref sig .tc := ⟨.hbm, 42, rfl⟩
abbrev main_call1_v1_0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c : Ref sig .tc := ⟨.hbm, 47, rfl⟩
abbrev main_v28 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_values : Ref sig .tc := ⟨.hbm, 75, rfl⟩
abbrev main_indices : Ref sig .tc := ⟨.hbm, 76, rfl⟩
abbrev main_v49 : Ref sig .tc := ⟨.hbm, 77, rfl⟩
abbrev main_v50 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_call3_c : Ref sig .tc := ⟨.hbm, 104, rfl⟩
abbrev main_call3_v0 : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_c_1 : Ref sig .tc := ⟨.hbm, 112, rfl⟩
abbrev main_call3_c_2 : Ref sig .tc := ⟨.hbm, 113, rfl⟩
abbrev main_call3_v6 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_3 : Ref sig .tc := ⟨.hbm, 120, rfl⟩
abbrev main_call3_v12 : Ref sig .tc := ⟨.hbm, 121, rfl⟩
abbrev main_call3_v13 : Ref sig .tc := ⟨.hbm, 122, rfl⟩
abbrev main_call3_v14 : Ref sig .tc := ⟨.hbm, 123, rfl⟩
abbrev main_call3_cst : Ref sig .tc := ⟨.hbm, 124, rfl⟩
abbrev main_call3_v15 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_c_1 : Ref sig .tc := ⟨.hbm, 137, rfl⟩
abbrev main_call4_c_2 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_c_3 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_call4_cst : Ref sig .tc := ⟨.hbm, 149, rfl⟩
abbrev main_call4_v15 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_cst_10 : Ref sig .tc := ⟨.hbm, 158, rfl⟩
abbrev main_v64 : Ref sig .tc := ⟨.hbm, 159, rfl⟩
abbrev main_v65 : Ref sig .tc := ⟨.hbm, 160, rfl⟩
abbrev main_c_11 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_cst_12 : Ref sig .tc := ⟨.hbm, 169, rfl⟩
abbrev main_call5_v0 : Ref sig .tc := ⟨.hbm, 170, rfl⟩
abbrev main_call5_v1 : Ref sig .tc := ⟨.hbm, 171, rfl⟩
abbrev main_v73 : Ref sig .tc := ⟨.hbm, 172, rfl⟩
abbrev main_cst_13 : Ref sig .tc := ⟨.hbm, 173, rfl⟩
abbrev main_v74 : Ref sig .tc := ⟨.hbm, 174, rfl⟩
abbrev main_cst_14 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_cst_15 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_cst_16 : Ref sig .tc := ⟨.hbm, 193, rfl⟩
abbrev main_v91 : Ref sig .tc := ⟨.hbm, 194, rfl⟩
abbrev main_c_17 : Ref sig .tc := ⟨.hbm, 195, rfl⟩
abbrev main_v92 : Ref sig .tc := ⟨.hbm, 196, rfl⟩
abbrev main_v93 : Ref sig .tc := ⟨.hbm, 197, rfl⟩
abbrev main_c_18 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_c_19 : Ref sig .tc := ⟨.hbm, 202, rfl⟩
abbrev main_v97 : Ref sig .tc := ⟨.hbm, 203, rfl⟩
abbrev main_v98 : Ref sig .tc := ⟨.hbm, 204, rfl⟩
abbrev main_c_20 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_c_21 : Ref sig .tc := ⟨.hbm, 209, rfl⟩
abbrev main_v102 : Ref sig .tc := ⟨.hbm, 210, rfl⟩
abbrev main_v103 : Ref sig .tc := ⟨.hbm, 211, rfl⟩
abbrev main_c_22 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_cst_23 : Ref sig .tc := ⟨.hbm, 223, rfl⟩
abbrev main_v114 : Ref sig .tc := ⟨.hbm, 224, rfl⟩
abbrev main_cst_24 : Ref sig .tc := ⟨.hbm, 225, rfl⟩
abbrev main_v115 : Ref sig .tc := ⟨.hbm, 226, rfl⟩
abbrev main_c_25 : Ref sig .tc := ⟨.hbm, 227, rfl⟩
abbrev main_v116 : Ref sig .tc := ⟨.hbm, 228, rfl⟩
abbrev main_v117 : Ref sig .tc := ⟨.hbm, 229, rfl⟩
abbrev main_c_26 : Ref sig .tc := ⟨.hbm, 230, rfl⟩
abbrev main_v118 : Ref sig .tc := ⟨.hbm, 231, rfl⟩
abbrev main_v119 : Ref sig .tc := ⟨.hbm, 232, rfl⟩
abbrev main_v120 : Ref sig .tc := ⟨.hbm, 233, rfl⟩
abbrev main_c_27 : Ref sig .tc := ⟨.hbm, 234, rfl⟩
abbrev main_v121 : Ref sig .tc := ⟨.hbm, 235, rfl⟩
abbrev main_v122 : Ref sig .tc := ⟨.hbm, 236, rfl⟩
abbrev main_c_28 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_c_29 : Ref sig .tc := ⟨.hbm, 241, rfl⟩
abbrev main_v126 : Ref sig .tc := ⟨.hbm, 242, rfl⟩
abbrev main_v127 : Ref sig .tc := ⟨.hbm, 243, rfl⟩
abbrev main_c_30 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_v136 : Ref sig .tc := ⟨.hbm, 253, rfl⟩
abbrev main_v137 : Ref sig .tc := ⟨.hbm, 254, rfl⟩
abbrev main_cst_31 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩

abbrev nD : Nat := 1
abbrev τ : Topo := Topo.v7x

variable {F : FTy → Type} [FloatOps F]
-- ==== Proof.RefFun.lean ====
/-
  The reference as functions of arrays: one definition per step of its text, and the steps put together
  as functions of the six arguments.
-/
module

public import proofs.«01_k».proof.Proof.Gen.ReferenceIdeal

@[expose] public section

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The two arrays one after the other. -/
def pairOf (a : IVec S1x12x2048x1 32) (b : IVec S1x12x2048x1 32) : IVec S1x12x2048x2 32 :=
  concatenate S1x12x2048x2 3 [⟨S1x12x2048x1, a⟩, ⟨S1x12x2048x1, b⟩] concatenates_S1x12x2048x1_S1x12x2048x1_S1x12x2048x2_d3

/-- The two arrays one after the other. -/
def memBefore (a : FVec F S1x12x2x1x64 .f32) (b : FVec F S1x12x2x2048x64 .f32) : FVec F S1x12x2x2049x64 .f32 :=
  concatenate S1x12x2x2049x64 3 [⟨S1x12x2x1x64, a⟩, ⟨S1x12x2x2048x64, b⟩] concatenates_S1x12x2x1x64_S1x12x2x2048x64_S1x12x2x2049x64_d3

/-- The two arrays one after the other. -/
def markBefore (a : IVec S1x12x2x1 32) (b : IVec S1x12x2x2048 32) : IVec S1x12x2x2049 32 :=
  concatenate S1x12x2x2049 3 [⟨S1x12x2x1, a⟩, ⟨S1x12x2x2048, b⟩] concatenates_S1x12x2x1_S1x12x2x2048_S1x12x2x2049_d3

/-- A `1 × 2048 × 768` argument read as twelve heads of 2048 tokens with 64 entries each (its entries in row-major order). -/
def heads (x : FVec F S1x2048x768 .f32) : FVec F S1x12x2048x64 .f32 :=
  shapeCast S1x12x2048x64 x shapeCasts_S1x2048x768_S1x12x2048x64

/-- For each row, its Euclidean norm plus `1e-6`, at every entry of the row. -/
def scaleOf (x : FVec F S1x12x2048x64 .f32) : FVec F S1x12x2048x64 .f32 :=
  broadcastInDim S1x12x2048x64 ![0, 1, 2, 3] bcast_S1x12x2048x1_S1x12x2048x64_0_1_2_3 (addf (Host.sqrt (broadcastInDim S1x12x2048x1 ![0, 1, 2] bcast_S1x12x2048_S1x12x2048x1_0_1_2 (Host.reduceAdd (mulf x x) (constant S_ .f32 0x00000000#32) reducesTo_S1x12x2048x64_S1x12x2048_d3 h_S_))) (broadcastInDim S1x12x2048x1 ![] bcast_S_S1x12x2048x1 (constant S_ .f32 0x358637BD#32)))

/-- Each row divided by its norm plus `1e-6`. -/
def normed (x : FVec F S1x12x2048x64 .f32) : FVec F S1x12x2048x64 .f32 :=
  Host.divf x (scaleOf x)

/-- For each row, the sum of its squares, at either cluster. -/
def rowSquares (y : FVec F S1x12x2048x64 .f32) : FVec F S1x12x2048x2 .f32 :=
  broadcastInDim S1x12x2048x2 ![0, 1, 2, 3] bcast_S1x12x2048x1_S1x12x2048x2_0_1_2_3 (broadcastInDim S1x12x2048x1 ![0, 1, 2] bcast_S1x12x2048_S1x12x2048x1_0_1_2 (Host.reduceAdd (mulf y y) (constant S_ .f32 0x00000000#32) reducesTo_S1x12x2048x64_S1x12x2048_d3 h_S_))

/-- For each head and cluster, the sum of the squares of the cluster mean, at every token. -/
def meanSquares (means : FVec F S12x2x64 .f32) : FVec F S1x12x2048x2 .f32 :=
  broadcastInDim S1x12x2048x2 ![0, 1, 2, 3] bcast_S1x12x1x2_S1x12x2048x2_0_1_2_3 (broadcastInDim S1x12x1x2 ![1, 3] bcast_S12x2_S1x12x1x2_1_3 (Host.reduceAdd (mulf means means) (constant S_ .f32 0x00000000#32) reducesTo_S12x2x64_S12x2_d2 h_S_))

/-- For each token and cluster, the product of the row with the cluster mean. -/
def products (y : FVec F S1x12x2048x64 .f32) (means : FVec F S12x2x64 .f32) : FVec F S1x12x2048x2 .f32 :=
  transpose S1x12x2048x2 [2, 0, 3, 1] (Host.dotGeneral dot_S12x2x64_S1x12x2048x64_S12x2x1x2048_2_3_1_02_0_1 none means y) transposes_S12x2x1x2048_S1x12x2048x2_2_0_3_1

/-- The distance of each row from each cluster mean: the root of the greater of the expanded square and zero. -/
def dists (y : FVec F S1x12x2048x64 .f32) (means : FVec F S12x2x64 .f32) : FVec F S1x12x2048x2 .f32 :=
  Host.sqrt (maximumf (subf (addf (rowSquares y) (meanSquares means)) (mulf (broadcastInDim S1x12x2048x2 ![] bcast_S_S1x12x2048x2 (constant S_ .f32 0x40000000#32)) (products y means))) (broadcastInDim S1x12x2048x2 ![] bcast_S_S1x12x2048x2 (constant S_ .f32 0x00000000#32)))

/-- For each token the index of the nearer cluster mean, the first of two at the same distance. -/
def bucket (d : FVec F S1x12x2048x2 .f32) : IVec S1x12x2048 32 :=
  fun j => (Host.argReduce reducer_argmin_f32_i32 d (iotaInDim S1x12x2048x2 32 3) (constant S_ .f32 0x7F800000#32) (constantI S_ 32 0#32) reducesTo_S1x12x2048x2_S1x12x2048_d3 h_S_ j).2

/-- The head numbers `0 … 11` as a column. -/
def headColumn : IVec S1x12x1 32 :=
  broadcastInDim S1x12x1 ![1] bcast_S12_S1x12x1_1 (iotaInDim S12 32 0)

/-- The head numbers, a negative one counted from the end. -/
def headIndex (h : IVec S1x12x1 32) : IVec S1x12x1 32 :=
  select (cmpi .slt h (broadcastInDim S1x12x1 ![] bcast_S_S1x12x1 (constantI S_ 32 0#32))) (addi h (broadcastInDim S1x12x1 ![] bcast_S_S1x12x1 (constantI S_ 32 12#32))) h

/-- The cluster numbers, a negative one counted from the end. -/
def bucketIndex (b : IVec S1x12x2048 32) : IVec S1x12x2048 32 :=
  select (cmpi .slt b (broadcastInDim S1x12x2048 ![] bcast_S_S1x12x2048 (constantI S_ 32 0#32))) (addi b (broadcastInDim S1x12x2048 ![] bcast_S_S1x12x2048 (constantI S_ 32 2#32))) b

/-- For each token the pair of its head and its cluster number. -/
def meanPlace (h : IVec S1x12x1 32) (b : IVec S1x12x2048 32) : IVec S1x12x2048x2 32 :=
  pairOf (broadcastInDim S1x12x2048x1 ![0, 1, 2] bcast_S1x12x2048_S1x12x2048x1_0_1_2 (broadcastInDim S1x12x2048 ![0, 1, 2] bcast_S1x12x1_S1x12x2048_0_1_2 h)) (broadcastInDim S1x12x2048x1 ![0, 1, 2] bcast_S1x12x2048_S1x12x2048x1_0_1_2 b)

/-- For each token the mean of the cluster that it is assigned to. -/
def routed (b : IVec S1x12x2048 32) (means : FVec F S12x2x64 .f32) : FVec F S1x12x2048x64 .f32 :=
  Host.gather gather_S12x2x64_S1x12x2048x2_S1x12x2048x64_3_01_n_n_01_3_1164 means (meanPlace (headIndex headColumn) (bucketIndex b))

/-- The squares of the differences of the rows from their cluster means. -/
def sqErr (y : FVec F S1x12x2048x64 .f32) (r : FVec F S1x12x2048x64 .f32) : FVec F S1x12x2048x64 .f32 :=
  mulf (subf y r) (subf y r)

/-- The mean of the squared differences of the rows from their cluster means, times the commitment. -/
def auxOf (y : FVec F S1x12x2048x64 .f32) (r : FVec F S1x12x2048x64 .f32) : FVec F S_ .f32 :=
  mulf (Host.divf (Host.reduceAdd (sqErr y r) (constant S_ .f32 0x00000000#32) reducesTo_S1x12x2048x64_S_d0_1_2_3 h_S_) (constant S_ .f32 0x49C00000#32)) (constant S_ .f32 0x38D1B717#32)

/-- The distances with the cluster axis before the token axis. -/
def distsT (d : FVec F S1x12x2048x2 .f32) : FVec F S1x12x2x2048 .f32 :=
  transpose S1x12x2x2048 [0, 1, 3, 2] d transposes_S1x12x2048x2_S1x12x2x2048_0_1_3_2

/-- For each head and cluster the token numbers in the order of falling distance. -/
def order (d : FVec F S1x12x2048x2 .f32) : IVec S1x12x2x2048 32 :=
  (Host.topK S1x12x2x2048 3 (FloatOps.cmpfTotal .gt) (distsT d) sliceFits_S1x12x2x2048_S1x12x2x2048).2

/-- The token numbers of both clusters of a head, one after the other. -/
def flat (o : IVec S1x12x2x2048 32) : IVec S1x12x4096 32 :=
  shapeCast S1x12x4096 o shapeCasts_S1x12x2x2048_S1x12x4096

/-- The token numbers of a head as a column. -/
def column (f : IVec S1x12x4096 32) : IVec S1x12x4096x1 32 :=
  broadcastInDim S1x12x4096x1 ![0, 1, 2] bcast_S1x12x4096_S1x12x4096x1_0_1_2 f

/-- The token numbers that rows are taken at, a negative one counted from the end. -/
def rowIndex (i : IVec S1x12x4096x1 32) : IVec S12x4096x1 32 :=
  shapeCast S12x4096x1 (select (cmpi .slt i (broadcastInDim S1x12x4096x1 ![] bcast_S_S1x12x4096x1 (constantI S_ 32 0#32))) (addi i (broadcastInDim S1x12x4096x1 ![] bcast_S_S1x12x4096x1 (constantI S_ 32 2048#32))) i) shapeCasts_S1x12x4096x1_S12x4096x1

/-- Whether a token number lies between 0 and 2047, at every entry of the row. -/
def inRange (r : IVec S12x4096x1 32) : IVec S1x12x4096x64 1 :=
  broadcastInDim S1x12x4096x64 ![1, 2] bcast_S12x4096_S1x12x4096x64_1_2 (Host.reduce IntOp.andi (andi (cmpi .sge r (broadcastInDim S12x4096x1 ![] bcast_S_S12x4096x1 (constantI S_ 32 0#32))) (cmpi .sle r (broadcastInDim S12x4096x1 ![0, 1, 2] bcast_S1x1x1_S12x4096x1_0_1_2 (broadcastInDim S1x1x1 ![2] bcast_S1_S1x1x1_2 (constantI S1 32 2047#32))))) (constantI S_ 1 1#1) reducesTo_S12x4096x1_S12x4096_d2 h_S_)

/-- The rows of `x` at the token numbers `i`; a row whose number is out of range is filled with the NaN word. -/
def taken (x : FVec F S1x12x2048x64 .f32) (i : IVec S1x12x4096x1 32) : FVec F S1x12x4096x64 .f32 :=
  select (inRange (rowIndex i)) (Host.gather gather_S1x12x2048x64_S12x4096x1_S1x12x4096x64_03_2_1_0_2_2_11164 x (rowIndex i)) (broadcastInDim S1x12x4096x64 ![] bcast_S_S1x12x4096x64 (constant S_ .f32 0x7FC00000#32))

/-- The rows of a head as the rows of its two clusters. -/
def perCluster (t : FVec F S1x12x4096x64 .f32) : FVec F S1x12x2x2048x64 .f32 :=
  shapeCast S1x12x2x2048x64 t shapeCasts_S1x12x4096x64_S1x12x2x2048x64

/-- The rows of each cluster with the memory row of the cluster before them. -/
def withMem (mem : FVec F S12x2x1x64 .f32) (x : FVec F S1x12x2x2048x64 .f32) : FVec F S1x12x2x2049x64 .f32 :=
  memBefore (broadcastInDim S1x12x2x1x64 ![1, 2, 3, 4] bcast_S12x2x1x64_S1x12x2x1x64_1_2_3_4 mem) x

/-- The products of the query rows with the key rows of their cluster, times 1/8. -/
def scores (qp : FVec F S1x12x2x2048x64 .f32) (km : FVec F S1x12x2x2049x64 .f32) : FVec F S1x12x2x2048x2049 .f32 :=
  mulf (Host.dotGeneral dot_S1x12x2x2048x64_S1x12x2x2049x64_S1x12x2x2048x2049_4_4_3_3_012_012 none qp km) (broadcastInDim S1x12x2x2048x2049 ![] bcast_S_S1x12x2x2048x2049 (constant S_ .f32 0x3E000000#32))

/-- Whether key place `j` holds the same token as query place `i`; the memory row has the number −1. -/
def sameToken (o : IVec S1x12x2x2048 32) : IVec S1x12x2x2048x2049 1 :=
  cmpi .eq (broadcastInDim S1x12x2x2048x2049 ![0, 1, 2, 3, 4] bcast_S1x12x2x2048x1_S1x12x2x2048x2049_0_1_2_3_4 (broadcastInDim S1x12x2x2048x1 ![0, 1, 2, 3] bcast_S1x12x2x2048_S1x12x2x2048x1_0_1_2_3 o)) (broadcastInDim S1x12x2x2048x2049 ![0, 1, 2, 3, 4] bcast_S1x12x2x1x2049_S1x12x2x2048x2049_0_1_2_3_4 (broadcastInDim S1x12x2x1x2049 ![0, 1, 2, 4] bcast_S1x12x2x2049_S1x12x2x1x2049_0_1_2_4 (markBefore (broadcastInDim S1x12x2x1 ![] bcast_S_S1x12x2x1 (constantI S_ 32 4294967295#32)) o)))

/-- The scores with −∞ where a token meets itself. -/
def masked (o : IVec S1x12x2x2048 32) (s : FVec F S1x12x2x2048x2049 .f32) : FVec F S1x12x2x2048x2049 .f32 :=
  select (sameToken o) (broadcastInDim S1x12x2x2048x2049 ![] bcast_S_S1x12x2x2048x2049 (constant S_ .f32 0xFF800000#32)) s

/-- The exponential of each score less the greatest score of its row. -/
def shifted (s : FVec F S1x12x2x2048x2049 .f32) : FVec F S1x12x2x2048x2049 .f32 :=
  Host.exp (subf s (broadcastInDim S1x12x2x2048x2049 ![0, 1, 2, 3, 4] bcast_S1x12x2x2048x1_S1x12x2x2048x2049_0_1_2_3_4 (broadcastInDim S1x12x2x2048x1 ![0, 1, 2, 3] bcast_S1x12x2x2048_S1x12x2x2048x1_0_1_2_3 (maximumf (broadcastInDim S1x12x2x2048 ![] bcast_S_S1x12x2x2048 (constant S_ .f32 0xFF800000#32)) (Host.reduce FloatOps.maximumf s (constant S_ .f32 0xFF800000#32) reducesTo_S1x12x2x2048x2049_S1x12x2x2048_d4 h_S_)))))

/-- The softmax of each row of scores. -/
def softmax (s : FVec F S1x12x2x2048x2049 .f32) : FVec F S1x12x2x2048x2049 .f32 :=
  Host.divf (shifted s) (broadcastInDim S1x12x2x2048x2049 ![0, 1, 2, 3, 4] bcast_S1x12x2x2048x1_S1x12x2x2048x2049_0_1_2_3_4 (broadcastInDim S1x12x2x2048x1 ![0, 1, 2, 3] bcast_S1x12x2x2048_S1x12x2x2048x1_0_1_2_3 (Host.reduceAdd (shifted s) (constant S_ .f32 0x00000000#32) reducesTo_S1x12x2x2048x2049_S1x12x2x2048_d4 h_S_)))

/-- The sums of the value rows with the softmax weights. -/
def weighted (a : FVec F S1x12x2x2048x2049 .f32) (vm : FVec F S1x12x2x2049x64 .f32) : FVec F S1x12x2x2048x64 .f32 :=
  Host.dotGeneral dot_S1x12x2x2048x2049_S1x12x2x2049x64_S1x12x2x2048x64_4_3_3_4_012_012 none a vm

/-- The attention of both clusters of a head, one after the other. -/
def outFlat (a : FVec F S1x12x2x2048x2049 .f32) (vm : FVec F S1x12x2x2049x64 .f32) : FVec F S1x12x4096x64 .f32 :=
  shapeCast S1x12x4096x64 (weighted a vm) shapeCasts_S1x12x2x2048x64_S1x12x4096x64

/-- The batch number 0 as a column. -/
def zeroColumn : IVec S1x1x1 32 :=
  broadcastInDim S1x1x1 ![0] bcast_S1_S1x1x1_0 (iotaInDim S1 32 0)

/-- The batch number, a negative one counted from the end. -/
def batchIndex (z : IVec S1x1x1 32) : IVec S1x1x1 32 :=
  select (cmpi .slt z (broadcastInDim S1x1x1 ![] bcast_S_S1x1x1 (constantI S_ 32 0#32))) (addi z (broadcastInDim S1x1x1 ![] bcast_S_S1x1x1 (constantI S_ 32 1#32))) z

/-- The token numbers that rows are added at, a negative one counted from the end. -/
def tokenIndex (f : IVec S1x12x4096 32) : IVec S1x12x4096 32 :=
  select (cmpi .slt f (broadcastInDim S1x12x4096 ![] bcast_S_S1x12x4096 (constantI S_ 32 0#32))) (addi f (broadcastInDim S1x12x4096 ![] bcast_S_S1x12x4096 (constantI S_ 32 2048#32))) f

/-- Three columns side by side. -/
def placesOf (a b c : IVec S1x12x4096x1 32) : IVec S1x12x4096x3 32 :=
  concatenate S1x12x4096x3 3 [⟨S1x12x4096x1, a⟩, ⟨S1x12x4096x1, b⟩, ⟨S1x12x4096x1, c⟩] concatenates_S1x12x4096x1_S1x12x4096x1_S1x12x4096x1_S1x12x4096x3_d3

/-- For each row to be added its batch number, its head and its token. -/
def places (b : IVec S1x1x1 32) (h : IVec S1x12x1 32) (t : IVec S1x12x4096 32) : IVec S1x12x4096x3 32 :=
  placesOf (broadcastInDim S1x12x4096x1 ![0, 1, 2] bcast_S1x12x4096_S1x12x4096x1_0_1_2 (broadcastInDim S1x12x4096 ![0, 1, 2] bcast_S1x1x1_S1x12x4096_0_1_2 b)) (broadcastInDim S1x12x4096x1 ![0, 1, 2] bcast_S1x12x4096_S1x12x4096x1_0_1_2 (broadcastInDim S1x12x4096 ![0, 1, 2] bcast_S1x12x1_S1x12x4096_0_1_2 h)) (broadcastInDim S1x12x4096x1 ![0, 1, 2] bcast_S1x12x4096_S1x12x4096x1_0_1_2 t)

/-- The array of zeros. -/
def zeros : FVec F S1x12x2048x64 .f32 :=
  broadcastInDim S1x12x2048x64 ![] bcast_S_S1x12x2048x64 (constant S_ .f32 0x00000000#32)

/-- The array `z` with each row of `u` added at its place. -/
def numer (z : FVec F S1x12x2048x64 .f32) (p : IVec S1x12x4096x3 32) (u : FVec F S1x12x4096x64 .f32) : FVec F S1x12x2048x64 .f32 :=
  Host.scatterAdd scatter_S1x12x2048x64_S1x12x4096x3_S1x12x4096x64_3_012_012_3 z p u

/-- The array `z` with a row of ones added at each place. -/
def denom (z : FVec F S1x12x2048x64 .f32) (p : IVec S1x12x4096x3 32) : FVec F S1x12x2048x64 .f32 :=
  Host.scatterAdd scatter_S1x12x2048x64_S1x12x4096x3_S1x12x4096x64_3_012_012_3 z p (broadcastInDim S1x12x4096x64 ![] bcast_S_S1x12x4096x64 (constant S_ .f32 0x3F800000#32))

/-- The sums divided by the counts plus `1e-5`. -/
def meanOf (n : FVec F S1x12x2048x64 .f32) (c : FVec F S1x12x2048x64 .f32) : FVec F S1x12x2048x64 .f32 :=
  Host.divf n (addf c (broadcastInDim S1x12x2048x64 ![] bcast_S_S1x12x2048x64 (constant S_ .f32 0x3727C5AC#32)))

/-! ## The steps put together -/

/-- The query rows. -/
def qHeads (q : FVec F S1x2048x768 .f32) : FVec F S1x12x2048x64 .f32 :=
  heads q

/-- The key rows. -/
def kHeads (k : FVec F S1x2048x768 .f32) : FVec F S1x12x2048x64 .f32 :=
  heads k

/-- The value rows. -/
def vHeads (v : FVec F S1x2048x768 .f32) : FVec F S1x12x2048x64 .f32 :=
  heads v

/-- The normalised query rows. -/
def xn (q : FVec F S1x2048x768 .f32) : FVec F S1x12x2048x64 .f32 :=
  normed (qHeads q)

/-- The distances of the normalised query rows from the means. -/
def dist (q : FVec F S1x2048x768 .f32) (means : FVec F S12x2x64 .f32) : FVec F S1x12x2048x2 .f32 :=
  dists (xn q) means

/-- The nearer cluster of each query row. -/
def near (q : FVec F S1x2048x768 .f32) (means : FVec F S12x2x64 .f32) : IVec S1x12x2048 32 :=
  bucket (dist q means)

/-- The mean that each query row is assigned to. -/
def target (q : FVec F S1x2048x768 .f32) (means : FVec F S12x2x64 .f32) : FVec F S1x12x2048x64 .f32 :=
  routed (near q means) means

/-- The second result: the commitment loss. -/
def aux (q : FVec F S1x2048x768 .f32) (means : FVec F S12x2x64 .f32) : FVec F S_ .f32 :=
  auxOf (xn q) (target q means)

/-- The token numbers by falling distance. -/
def ord (q : FVec F S1x2048x768 .f32) (means : FVec F S12x2x64 .f32) : IVec S1x12x2x2048 32 :=
  order (dist q means)

/-- The token numbers by falling distance, both clusters of a head in a row. -/
def ordFlat (q : FVec F S1x2048x768 .f32) (means : FVec F S12x2x64 .f32) : IVec S1x12x4096 32 :=
  flat (ord q means)

/-- The query rows of each cluster. -/
def qPerm (q : FVec F S1x2048x768 .f32) (means : FVec F S12x2x64 .f32) : FVec F S1x12x2x2048x64 .f32 :=
  perCluster (taken (qHeads q) (column (ordFlat q means)))

/-- The key rows of each cluster, the memory row first. -/
def kMem (q : FVec F S1x2048x768 .f32) (k : FVec F S1x2048x768 .f32) (means : FVec F S12x2x64 .f32) (memk : FVec F S12x2x1x64 .f32) : FVec F S1x12x2x2049x64 .f32 :=
  withMem memk (perCluster (taken (kHeads k) (column (ordFlat q means))))

/-- The value rows of each cluster, the memory row first. -/
def vMem (q : FVec F S1x2048x768 .f32) (v : FVec F S1x2048x768 .f32) (means : FVec F S12x2x64 .f32) (memv : FVec F S12x2x1x64 .f32) : FVec F S1x12x2x2049x64 .f32 :=
  withMem memv (perCluster (taken (vHeads v) (column (ordFlat q means))))

/-- The scores. -/
def score (q : FVec F S1x2048x768 .f32) (k : FVec F S1x2048x768 .f32) (means : FVec F S12x2x64 .f32) (memk : FVec F S12x2x1x64 .f32) : FVec F S1x12x2x2048x2049 .f32 :=
  scores (qPerm q means) (kMem q k means memk)

/-- The masked scores. -/
def scoreMasked (q : FVec F S1x2048x768 .f32) (k : FVec F S1x2048x768 .f32) (means : FVec F S12x2x64 .f32) (memk : FVec F S12x2x1x64 .f32) : FVec F S1x12x2x2048x2049 .f32 :=
  masked (ord q means) (score q k means memk)

/-- The softmax weights. -/
def weights (q : FVec F S1x2048x768 .f32) (k : FVec F S1x2048x768 .f32) (means : FVec F S12x2x64 .f32) (memk : FVec F S12x2x1x64 .f32) : FVec F S1x12x2x2048x2049 .f32 :=
  softmax (scoreMasked q k means memk)

/-- The attention, both clusters of a head in a row. -/
def attended (q : FVec F S1x2048x768 .f32) (k : FVec F S1x2048x768 .f32) (v : FVec F S1x2048x768 .f32) (means : FVec F S12x2x64 .f32) (memk : FVec F S12x2x1x64 .f32) (memv : FVec F S12x2x1x64 .f32) : FVec F S1x12x4096x64 .f32 :=
  outFlat (weights q k means memk) (vMem q v means memv)

/-- For each row of attention its batch number, its head and its token. -/
def place (q : FVec F S1x2048x768 .f32) (means : FVec F S12x2x64 .f32) : IVec S1x12x4096x3 32 :=
  places (batchIndex zeroColumn) (headIndex headColumn) (tokenIndex (ordFlat q means))

/-- The number of clusters that hold each token. -/
def counts (q : FVec F S1x2048x768 .f32) (means : FVec F S12x2x64 .f32) : FVec F S1x12x2048x64 .f32 :=
  denom zeros (place q means)

/-- The attention summed over clusters at each token. -/
def total (q : FVec F S1x2048x768 .f32) (k : FVec F S1x2048x768 .f32) (v : FVec F S1x2048x768 .f32) (means : FVec F S12x2x64 .f32) (memk : FVec F S12x2x1x64 .f32) (memv : FVec F S12x2x1x64 .f32) : FVec F S1x12x2048x64 .f32 :=
  numer zeros (place q means) (attended q k v means memk memv)

/-- The first result: the mean of the attention over the clusters that hold the token. -/
def result (q : FVec F S1x2048x768 .f32) (k : FVec F S1x2048x768 .f32) (v : FVec F S1x2048x768 .f32) (means : FVec F S12x2x64 .f32) (memk : FVec F S12x2x1x64 .f32) (memv : FVec F S12x2x1x64 .f32) : FVec F S1x12x2048x64 .f32 :=
  meanOf (total q k v means memk memv) (counts q means)

end Cert.Ref

end
-- ==== Proof.RefOps.lean ====
/-
  The operations of the reference as lists, cut where its steps end.
-/
module

public import proofs.«01_k».proof.Proof.Gen.ReferenceIdeal
public import proofs.«01_k».proof.Proof.RefFun
public import Idealize.ShloMosaic.Lib.StableHlo.Run
public import Idealize.ShloMosaic.Lib.StableHlo.RunRead
public import Idealize.ShloMosaic.Lib.StableHlo.RunHlo
public import Idealize.ShloMosaic.Lib.Pipeline.Frame

@[expose] public section

set_option maxRecDepth 16384
set_option Elab.async false

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- Operations 1 to 13 of the reference. -/
def s1 : List (HloOp τ sig (Elt F)) :=
  [reshape main_arg0 main_v0 (rfl : (.f32 : EltTy) = .f32) shapeCasts_S1x2048x768_S1x12x2048x64,
   reshape main_arg1 main_v1 (rfl : (.f32 : EltTy) = .f32) shapeCasts_S1x2048x768_S1x12x2048x64,
   reshape main_arg2 main_v2 (rfl : (.f32 : EltTy) = .f32) shapeCasts_S1x2048x768_S1x12x2048x64,
   binary main_v0 main_v0 main_call0_v0 mulf,
   nullary main_call0_cst (constant S_ .f32 0x00000000#32),
   binary main_call0_v0 main_call0_cst main_call0_v1 (fun x v => Host.reduceAdd x v reducesTo_S1x12x2048x64_S1x12x2048_d3 h_S_),
   unary main_call0_v1 main_call0_v2 (broadcastInDim S1x12x2048x1 ![0, 1, 2] bcast_S1x12x2048_S1x12x2048x1_0_1_2),
   unary main_call0_v2 main_v3 Host.sqrt,
   nullary main_cst (constant S_ .f32 0x358637BD#32),
   unary main_cst main_v4 (broadcastInDim S1x12x2048x1 ![] bcast_S_S1x12x2048x1 : (⟨S_, .f32⟩ : BufTy).Contents (Elt F) → (⟨S1x12x2048x1, .f32⟩ : BufTy).Contents (Elt F)),
   binary main_v3 main_v4 main_v5 (addf : (⟨S1x12x2048x1, .f32⟩ : BufTy).Contents (Elt F) → (⟨S1x12x2048x1, .f32⟩ : BufTy).Contents (Elt F) → (⟨S1x12x2048x1, .f32⟩ : BufTy).Contents (Elt F)),
   unary main_v5 main_v6 (broadcastInDim S1x12x2048x64 ![0, 1, 2, 3] bcast_S1x12x2048x1_S1x12x2048x64_0_1_2_3 : (⟨S1x12x2048x1, .f32⟩ : BufTy).Contents (Elt F) → (⟨S1x12x2048x64, .f32⟩ : BufTy).Contents (Elt F)),
   binary main_v0 main_v6 main_v7 (Host.divf : (⟨S1x12x2048x64, .f32⟩ : BufTy).Contents (Elt F) → (⟨S1x12x2048x64, .f32⟩ : BufTy).Contents (Elt F) → (⟨S1x12x2048x64, .f32⟩ : BufTy).Contents (Elt F))]

/-- What `s1` writes, in order. -/
abbrev s1W : List (Ref sig .tc) :=
  [main_v0, main_v1, main_v2, main_call0_v0, main_call0_cst, main_call0_v1, main_call0_v2, main_v3, main_cst, main_v4, main_v5, main_v6, main_v7]

theorem s1_writes : (s1 : List (HloOp τ sig (Elt F))).map HloOp.writes = s1W.map fun w => {Proc.devRef (τ := τ) .tc w} := rfl

/-- `s1` leaves what it does not write. -/
theorem s1_keep (V : Valuation τ sig (Elt F)) (r : Ref sig .tc) (h : r ∉ s1W) :
    after s1 V (Proc.devRef .tc r) = V (Proc.devRef .tc r) :=
  after_unwritten s1W s1_writes h V

theorem s1_sub : (s1 : List (HloOp τ sig (Elt F))).Forall fun op => op.bufs ⊆ tcRefs τ sig :=
  ⟨reshape_bufs_sub .., reshape_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem s1_fresh : (s1 : List (HloOp τ sig (Elt F))).Forall fun op => op.fresh = ∅ :=
  ⟨rfl, rfl, rfl, rfl, rfl, rfl, rfl, rfl, rfl, rfl, rfl, rfl, rfl⟩

/-- Operations 14 to 34 of the reference. -/
def s2 : List (HloOp τ sig (Elt F)) :=
  [binary main_v7 main_v7 main_v8 (mulf : (⟨S1x12x2048x64, .f32⟩ : BufTy).Contents (Elt F) → (⟨S1x12x2048x64, .f32⟩ : BufTy).Contents (Elt F) → (⟨S1x12x2048x64, .f32⟩ : BufTy).Contents (Elt F)),
   nullary main_cst_0 (constant S_ .f32 0x00000000#32),
   binary main_v8 main_cst_0 main_v9 ((fun x v => Host.reduceAdd x v reducesTo_S1x12x2048x64_S1x12x2048_d3 h_S_) : (⟨S1x12x2048x64, .f32⟩ : BufTy).Contents (Elt F) → (⟨S_, .f32⟩ : BufTy).Contents (Elt F) → (⟨S1x12x2048, .f32⟩ : BufTy).Contents (Elt F)),
   unary main_v9 main_v10 (broadcastInDim S1x12x2048x1 ![0, 1, 2] bcast_S1x12x2048_S1x12x2048x1_0_1_2 : (⟨S1x12x2048, .f32⟩ : BufTy).Contents (Elt F) → (⟨S1x12x2048x1, .f32⟩ : BufTy).Contents (Elt F)),
   binary main_arg3 main_arg3 main_v11 (mulf : (⟨S12x2x64, .f32⟩ : BufTy).Contents (Elt F) → (⟨S12x2x64, .f32⟩ : BufTy).Contents (Elt F) → (⟨S12x2x64, .f32⟩ : BufTy).Contents (Elt F)),
   nullary main_cst_1 (constant S_ .f32 0x00000000#32),
   binary main_v11 main_cst_1 main_v12 ((fun x v => Host.reduceAdd x v reducesTo_S12x2x64_S12x2_d2 h_S_) : (⟨S12x2x64, .f32⟩ : BufTy).Contents (Elt F) → (⟨S_, .f32⟩ : BufTy).Contents (Elt F) → (⟨S12x2, .f32⟩ : BufTy).Contents (Elt F)),
   binary main_arg3 main_v7 main_v13 ((fun l r => Host.dotGeneral dot_S12x2x64_S1x12x2048x64_S12x2x1x2048_2_3_1_02_0_1 none l r) : (⟨S12x2x64, .f32⟩ : BufTy).Contents (Elt F) → (⟨S1x12x2048x64, .f32⟩ : BufTy).Contents (Elt F) → (⟨S12x2x1x2048, .f32⟩ : BufTy).Contents (Elt F)),
   unary main_v13 main_v14 ((transpose S1x12x2048x2 [2, 0, 3, 1] · transposes_S12x2x1x2048_S1x12x2048x2_2_0_3_1) : (⟨S12x2x1x2048, .f32⟩ : BufTy).Contents (Elt F) → (⟨S1x12x2048x2, .f32⟩ : BufTy).Contents (Elt F)),
   unary main_v12 main_v15 (broadcastInDim S1x12x1x2 ![1, 3] bcast_S12x2_S1x12x1x2_1_3 : (⟨S12x2, .f32⟩ : BufTy).Contents (Elt F) → (⟨S1x12x1x2, .f32⟩ : BufTy).Contents (Elt F)),
   unary main_v10 main_v16 (broadcastInDim S1x12x2048x2 ![0, 1, 2, 3] bcast_S1x12x2048x1_S1x12x2048x2_0_1_2_3 : (⟨S1x12x2048x1, .f32⟩ : BufTy).Contents (Elt F) → (⟨S1x12x2048x2, .f32⟩ : BufTy).Contents (Elt F)),
   unary main_v15 main_v17 (broadcastInDim S1x12x2048x2 ![0, 1, 2, 3] bcast_S1x12x1x2_S1x12x2048x2_0_1_2_3 : (⟨S1x12x1x2, .f32⟩ : BufTy).Contents (Elt F) → (⟨S1x12x2048x2, .f32⟩ : BufTy).Contents (Elt F)),
   binary main_v16 main_v17 main_v18 (addf : (⟨S1x12x2048x2, .f32⟩ : BufTy).Contents (Elt F) → (⟨S1x12x2048x2, .f32⟩ : BufTy).Contents (Elt F) → (⟨S1x12x2048x2, .f32⟩ : BufTy).Contents (Elt F)),
   nullary main_cst_2 (constant S_ .f32 0x40000000#32),
   unary main_cst_2 main_v19 (broadcastInDim S1x12x2048x2 ![] bcast_S_S1x12x2048x2 : (⟨S_, .f32⟩ : BufTy).Contents (Elt F) → (⟨S1x12x2048x2, .f32⟩ : BufTy).Contents (Elt F)),
   binary main_v19 main_v14 main_v20 (mulf : (⟨S1x12x2048x2, .f32⟩ : BufTy).Contents (Elt F) → (⟨S1x12x2048x2, .f32⟩ : BufTy).Contents (Elt F) → (⟨S1x12x2048x2, .f32⟩ : BufTy).Contents (Elt F)),
   binary main_v18 main_v20 main_v21 (subf : (⟨S1x12x2048x2, .f32⟩ : BufTy).Contents (Elt F) → (⟨S1x12x2048x2, .f32⟩ : BufTy).Contents (Elt F) → (⟨S1x12x2048x2, .f32⟩ : BufTy).Contents (Elt F)),
   nullary main_cst_3 (constant S_ .f32 0x00000000#32),
   unary main_cst_3 main_v22 (broadcastInDim S1x12x2048x2 ![] bcast_S_S1x12x2048x2 : (⟨S_, .f32⟩ : BufTy).Contents (Elt F) → (⟨S1x12x2048x2, .f32⟩ : BufTy).Contents (Elt F)),
   binary main_v21 main_v22 main_v23 (maximumf : (⟨S1x12x2048x2, .f32⟩ : BufTy).Contents (Elt F) → (⟨S1x12x2048x2, .f32⟩ : BufTy).Contents (Elt F) → (⟨S1x12x2048x2, .f32⟩ : BufTy).Contents (Elt F)),
   unary main_v23 main_v24 (Host.sqrt : (⟨S1x12x2048x2, .f32⟩ : BufTy).Contents (Elt F) → (⟨S1x12x2048x2, .f32⟩ : BufTy).Contents (Elt F))]

/-- What `s2` writes, in order. -/
abbrev s2W : List (Ref sig .tc) :=
  [main_v8, main_cst_0, main_v9, main_v10, main_v11, main_cst_1, main_v12, main_v13, main_v14, main_v15, main_v16, main_v17, main_v18, main_cst_2, main_v19, main_v20, main_v21, main_cst_3, main_v22, main_v23, main_v24]

theorem s2_writes : (s2 : List (HloOp τ sig (Elt F))).map HloOp.writes = s2W.map fun w => {Proc.devRef (τ := τ) .tc w} := rfl

/-- `s2` leaves what it does not write. -/
theorem s2_keep (V : Valuation τ sig (Elt F)) (r : Ref sig .tc) (h : r ∉ s2W) :
    after s2 V (Proc.devRef .tc r) = V (Proc.devRef .tc r) :=
  after_unwritten s2W s2_writes h V

theorem s2_sub : (s2 : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩

theorem s2_fresh : (s2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Operations 35 to 60 of the reference. -/
def s3 : List (HloOp τ sig (Elt F)) :=
  [nullary main_call1_v0 (iotaInDim S1x12x2048x2 32 3),
   nullary main_call1_cst (constant S_ .f32 0x7F800000#32),
   nullary main_call1_c (constantI S_ 32 0#32),
   quaternary main_v24 main_call1_v0 main_call1_cst main_call1_c main_call1_v1_0 (fun x y u v j => (Host.argReduce reducer_argmin_f32_i32 x y u v reducesTo_S1x12x2048x2_S1x12x2048_d3 h_S_ j).1),
   quaternary main_v24 main_call1_v0 main_call1_cst main_call1_c main_v25 (fun x y u v j => (Host.argReduce reducer_argmin_f32_i32 x y u v reducesTo_S1x12x2048x2_S1x12x2048_d3 h_S_ j).2),
   nullary main_v26 (iotaInDim S12 32 0),
   unary main_v26 main_v27 (broadcastInDim S1x12x1 ![1] bcast_S12_S1x12x1_1 : (⟨S12, .i32⟩ : BufTy).Contents (Elt F) → (⟨S1x12x1, .i32⟩ : BufTy).Contents (Elt F)),
   nullary main_c (constantI S_ 32 0#32),
   unary main_c main_v28 (broadcastInDim S1x12x1 ![] bcast_S_S1x12x1 : (⟨S_, .i32⟩ : BufTy).Contents (Elt F) → (⟨S1x12x1, .i32⟩ : BufTy).Contents (Elt F)),
   binary main_v27 main_v28 main_v29 (cmpi .slt : (⟨S1x12x1, .i32⟩ : BufTy).Contents (Elt F) → (⟨S1x12x1, .i32⟩ : BufTy).Contents (Elt F) → (⟨S1x12x1, .i1⟩ : BufTy).Contents (Elt F)),
   nullary main_c_4 (constantI S_ 32 12#32),
   unary main_c_4 main_v30 (broadcastInDim S1x12x1 ![] bcast_S_S1x12x1 : (⟨S_, .i32⟩ : BufTy).Contents (Elt F) → (⟨S1x12x1, .i32⟩ : BufTy).Contents (Elt F)),
   binary main_v27 main_v30 main_v31 (addi : (⟨S1x12x1, .i32⟩ : BufTy).Contents (Elt F) → (⟨S1x12x1, .i32⟩ : BufTy).Contents (Elt F) → (⟨S1x12x1, .i32⟩ : BufTy).Contents (Elt F)),
   ternary main_v29 main_v31 main_v27 main_v32 (select : (⟨S1x12x1, .i1⟩ : BufTy).Contents (Elt F) → (⟨S1x12x1, .i32⟩ : BufTy).Contents (Elt F) → (⟨S1x12x1, .i32⟩ : BufTy).Contents (Elt F) → (⟨S1x12x1, .i32⟩ : BufTy).Contents (Elt F)),
   nullary main_c_5 (constantI S_ 32 0#32),
   unary main_c_5 main_v33 (broadcastInDim S1x12x2048 ![] bcast_S_S1x12x2048 : (⟨S_, .i32⟩ : BufTy).Contents (Elt F) → (⟨S1x12x2048, .i32⟩ : BufTy).Contents (Elt F)),
   binary main_v25 main_v33 main_v34 (cmpi .slt : (⟨S1x12x2048, .i32⟩ : BufTy).Contents (Elt F) → (⟨S1x12x2048, .i32⟩ : BufTy).Contents (Elt F) → (⟨S1x12x2048, .i1⟩ : BufTy).Contents (Elt F)),
   nullary main_c_6 (constantI S_ 32 2#32),
   unary main_c_6 main_v35 (broadcastInDim S1x12x2048 ![] bcast_S_S1x12x2048 : (⟨S_, .i32⟩ : BufTy).Contents (Elt F) → (⟨S1x12x2048, .i32⟩ : BufTy).Contents (Elt F)),
   binary main_v25 main_v35 main_v36 (addi : (⟨S1x12x2048, .i32⟩ : BufTy).Contents (Elt F) → (⟨S1x12x2048, .i32⟩ : BufTy).Contents (Elt F) → (⟨S1x12x2048, .i32⟩ : BufTy).Contents (Elt F)),
   ternary main_v34 main_v36 main_v25 main_v37 (select : (⟨S1x12x2048, .i1⟩ : BufTy).Contents (Elt F) → (⟨S1x12x2048, .i32⟩ : BufTy).Contents (Elt F) → (⟨S1x12x2048, .i32⟩ : BufTy).Contents (Elt F) → (⟨S1x12x2048, .i32⟩ : BufTy).Contents (Elt F)),
   unary main_v32 main_v38 (broadcastInDim S1x12x2048 ![0, 1, 2] bcast_S1x12x1_S1x12x2048_0_1_2 : (⟨S1x12x1, .i32⟩ : BufTy).Contents (Elt F) → (⟨S1x12x2048, .i32⟩ : BufTy).Contents (Elt F)),
   unary main_v38 main_v39 (broadcastInDim S1x12x2048x1 ![0, 1, 2] bcast_S1x12x2048_S1x12x2048x1_0_1_2 : (⟨S1x12x2048, .i32⟩ : BufTy).Contents (Elt F) → (⟨S1x12x2048x1, .i32⟩ : BufTy).Contents (Elt F)),
   unary main_v37 main_v40 (broadcastInDim S1x12x2048x1 ![0, 1, 2] bcast_S1x12x2048_S1x12x2048x1_0_1_2 : (⟨S1x12x2048, .i32⟩ : BufTy).Contents (Elt F) → (⟨S1x12x2048x1, .i32⟩ : BufTy).Contents (Elt F)),
   binary main_v39 main_v40 main_v41 pairOf,
   binary main_arg3 main_v41 main_v42 ((fun x i => Host.gather gather_S12x2x64_S1x12x2048x2_S1x12x2048x64_3_01_n_n_01_3_1164 x i) : (⟨S12x2x64, .f32⟩ : BufTy).Contents (Elt F) → (⟨S1x12x2048x2, .i32⟩ : BufTy).Contents (Elt F) → (⟨S1x12x2048x64, .f32⟩ : BufTy).Contents (Elt F))]

/-- What `s3` writes, in order. -/
abbrev s3W : List (Ref sig .tc) :=
  [main_call1_v0, main_call1_cst, main_call1_c, main_call1_v1_0, main_v25, main_v26, main_v27, main_c, main_v28, main_v29, main_c_4, main_v30, main_v31, main_v32, main_c_5, main_v33, main_v34, main_c_6, main_v35, main_v36, main_v37, main_v38, main_v39, main_v40, main_v41, main_v42]

theorem s3_writes : (s3 : List (HloOp τ sig (Elt F))).map HloOp.writes = s3W.map fun w => {Proc.devRef (τ := τ) .tc w} := rfl

/-- `s3` leaves what it does not write. -/
theorem s3_keep (V : Valuation τ sig (Elt F)) (r : Ref sig .tc) (h : r ∉ s3W) :
    after s3 V (Proc.devRef .tc r) = V (Proc.devRef .tc r) :=
  after_unwritten s3W s3_writes h V

theorem s3_sub : (s3 : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩

theorem s3_fresh : (s3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- Operations 61 to 68 of the reference. -/
def s4 : List (HloOp τ sig (Elt F)) :=
  [binary main_v7 main_v42 main_v43 (subf : (⟨S1x12x2048x64, .f32⟩ : BufTy).Contents (Elt F) → (⟨S1x12x2048x64, .f32⟩ : BufTy).Contents (Elt F) → (⟨S1x12x2048x64, .f32⟩ : BufTy).Contents (Elt F)),
   binary main_v43 main_v43 main_v44 (mulf : (⟨S1x12x2048x64, .f32⟩ : BufTy).Contents (Elt F) → (⟨S1x12x2048x64, .f32⟩ : BufTy).Contents (Elt F) → (⟨S1x12x2048x64, .f32⟩ : BufTy).Contents (Elt F)),
   nullary main_cst_7 (constant S_ .f32 0x00000000#32),
   binary main_v44 main_cst_7 main_v45 ((fun x v => Host.reduceAdd x v reducesTo_S1x12x2048x64_S_d0_1_2_3 h_S_) : (⟨S1x12x2048x64, .f32⟩ : BufTy).Contents (Elt F) → (⟨S_, .f32⟩ : BufTy).Contents (Elt F) → (⟨S_, .f32⟩ : BufTy).Contents (Elt F)),
   nullary main_cst_8 (constant S_ .f32 0x49C00000#32),
   binary main_v45 main_cst_8 main_v46 (Host.divf : (⟨S_, .f32⟩ : BufTy).Contents (Elt F) → (⟨S_, .f32⟩ : BufTy).Contents (Elt F) → (⟨S_, .f32⟩ : BufTy).Contents (Elt F)),
   nullary main_cst_9 (constant S_ .f32 0x38D1B717#32),
   binary main_v46 main_cst_9 main_v47 (mulf : (⟨S_, .f32⟩ : BufTy).Contents (Elt F) → (⟨S_, .f32⟩ : BufTy).Contents (Elt F) → (⟨S_, .f32⟩ : BufTy).Contents (Elt F))]

/-- What `s4` writes, in order. -/
abbrev s4W : List (Ref sig .tc) :=
  [main_v43, main_v44, main_cst_7, main_v45, main_cst_8, main_v46, main_cst_9, main_v47]

theorem s4_writes : (s4 : List (HloOp τ sig (Elt F))).map HloOp.writes = s4W.map fun w => {Proc.devRef (τ := τ) .tc w} := rfl

/-- `s4` leaves what it does not write. -/
theorem s4_keep (V : Valuation τ sig (Elt F)) (r : Ref sig .tc) (h : r ∉ s4W) :
    after s4 V (Proc.devRef .tc r) = V (Proc.devRef .tc r) :=
  after_unwritten s4W s4_writes h V

theorem s4_sub : (s4 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub ..⟩

theorem s4_fresh : (s4 : List (HloOp τ sig (Elt F))).Forall fun op => op.fresh = ∅ :=
  ⟨rfl, rfl, rfl, rfl, rfl, rfl, rfl, rfl⟩

/-- Operations 69 to 73 of the reference. -/
def s5 : List (HloOp τ sig (Elt F)) :=
  [unary main_v24 main_v48 ((transpose S1x12x2x2048 [0, 1, 3, 2] · transposes_S1x12x2048x2_S1x12x2x2048_0_1_3_2) : (⟨S1x12x2048x2, .f32⟩ : BufTy).Contents (Elt F) → (⟨S1x12x2x2048, .f32⟩ : BufTy).Contents (Elt F)),
   unary main_v48 main_values ((fun x => (Host.topK S1x12x2x2048 3 (FloatOps.cmpfTotal .gt) x sliceFits_S1x12x2x2048_S1x12x2x2048).1) : (⟨S1x12x2x2048, .f32⟩ : BufTy).Contents (Elt F) → (⟨S1x12x2x2048, .f32⟩ : BufTy).Contents (Elt F)),
   unary main_v48 main_indices ((fun x => (Host.topK S1x12x2x2048 3 (FloatOps.cmpfTotal .gt) x sliceFits_S1x12x2x2048_S1x12x2x2048).2) : (⟨S1x12x2x2048, .f32⟩ : BufTy).Contents (Elt F) → (⟨S1x12x2x2048, .i32⟩ : BufTy).Contents (Elt F)),
   reshape main_indices main_v49 (rfl : (.i32 : EltTy) = .i32) shapeCasts_S1x12x2x2048_S1x12x4096,
   unary main_v49 main_v50 (broadcastInDim S1x12x4096x1 ![0, 1, 2] bcast_S1x12x4096_S1x12x4096x1_0_1_2 : (⟨S1x12x4096, .i32⟩ : BufTy).Contents (Elt F) → (⟨S1x12x4096x1, .i32⟩ : BufTy).Contents (Elt F))]

/-- What `s5` writes, in order. -/
abbrev s5W : List (Ref sig .tc) :=
  [main_v48, main_values, main_indices, main_v49, main_v50]

theorem s5_writes : (s5 : List (HloOp τ sig (Elt F))).map HloOp.writes = s5W.map fun w => {Proc.devRef (τ := τ) .tc w} := rfl

/-- `s5` leaves what it does not write. -/
theorem s5_keep (V : Valuation τ sig (Elt F)) (r : Ref sig .tc) (h : r ∉ s5W) :
    after s5 V (Proc.devRef .tc r) = V (Proc.devRef .tc r) :=
  after_unwritten s5W s5_writes h V

theorem s5_sub : (s5 : List (HloOp τ sig (Elt F))).Forall fun op => op.bufs ⊆ tcRefs τ sig :=
  ⟨unary_bufs_sub .., unary_bufs_sub .., unary_bufs_sub .., reshape_bufs_sub .., unary_bufs_sub ..⟩

theorem s5_fresh : (s5 : List (HloOp τ sig (Elt F))).Forall fun op => op.fresh = ∅ :=
  ⟨rfl, rfl, rfl, rfl, rfl⟩

/-- Operations 74 to 98 of the reference. -/
def s6 : List (HloOp τ sig (Elt F)) :=
  [nullary main_call2_c (constantI S_ 32 0#32),
   unary main_call2_c main_call2_v0 (broadcastInDim S1x12x4096x1 ![] bcast_S_S1x12x4096x1),
   binary main_v50 main_call2_v0 main_call2_v1 (cmpi .slt),
   nullary main_call2_c_0 (constantI S_ 32 2048#32),
   unary main_call2_c_0 main_call2_v2 (broadcastInDim S1x12x4096x1 ![] bcast_S_S1x12x4096x1),
   binary main_v50 main_call2_v2 main_call2_v3 addi,
   ternary main_call2_v1 main_call2_v3 main_v50 main_call2_v4 select,
   reshape main_call2_v4 main_call2_v5 (rfl : (.i32 : EltTy) = .i32) shapeCasts_S1x12x4096x1_S12x4096x1,
   nullary main_call2_c_1 (constantI S1 32 2047#32),
   nullary main_call2_c_2 (constantI S_ 32 0#32),
   unary main_call2_c_2 main_call2_v6 (broadcastInDim S12x4096x1 ![] bcast_S_S12x4096x1),
   binary main_call2_v5 main_call2_v6 main_call2_v7 (cmpi .sge),
   unary main_call2_c_1 main_call2_v8 (broadcastInDim S1x1x1 ![2] bcast_S1_S1x1x1_2),
   unary main_call2_v8 main_call2_v9 (broadcastInDim S12x4096x1 ![0, 1, 2] bcast_S1x1x1_S12x4096x1_0_1_2),
   binary main_call2_v5 main_call2_v9 main_call2_v10 (cmpi .sle),
   binary main_call2_v7 main_call2_v10 main_call2_v11 andi,
   nullary main_call2_c_3 (constantI S_ 1 1#1),
   binary main_call2_v11 main_call2_c_3 main_call2_v12 (fun x v => Host.reduce IntOp.andi x v reducesTo_S12x4096x1_S12x4096_d2 h_S_),
   binary main_v0 main_call2_v5 main_call2_v13 (fun x i => Host.gather gather_S1x12x2048x64_S12x4096x1_S1x12x4096x64_03_2_1_0_2_2_11164 x i),
   unary main_call2_v12 main_call2_v14 (broadcastInDim S1x12x4096x64 ![1, 2] bcast_S12x4096_S1x12x4096x64_1_2),
   nullary main_call2_cst (constant S_ .f32 0x7FC00000#32),
   unary main_call2_cst main_call2_v15 (broadcastInDim S1x12x4096x64 ![] bcast_S_S1x12x4096x64),
   ternary main_call2_v14 main_call2_v13 main_call2_v15 main_v51 select,
   reshape main_v51 main_v52 (rfl : (.f32 : EltTy) = .f32) shapeCasts_S1x12x4096x64_S1x12x2x2048x64,
   unary main_v49 main_v53 (broadcastInDim S1x12x4096x1 ![0, 1, 2] bcast_S1x12x4096_S1x12x4096x1_0_1_2 : (⟨S1x12x4096, .i32⟩ : BufTy).Contents (Elt F) → (⟨S1x12x4096x1, .i32⟩ : BufTy).Contents (Elt F))]

/-- What `s6` writes, in order. -/
abbrev s6W : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v51, main_v52, main_v53]

theorem s6_writes : (s6 : List (HloOp τ sig (Elt F))).map HloOp.writes = s6W.map fun w => {Proc.devRef (τ := τ) .tc w} := rfl

/-- `s6` leaves what it does not write. -/
theorem s6_keep (V : Valuation τ sig (Elt F)) (r : Ref sig .tc) (h : r ∉ s6W) :
    after s6 V (Proc.devRef .tc r) = V (Proc.devRef .tc r) :=
  after_unwritten s6W s6_writes h V

theorem s6_sub : (s6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub ..⟩

theorem s6_fresh : (s6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- Operations 99 to 123 of the reference. -/
def s7 : List (HloOp τ sig (Elt F)) :=
  [nullary main_call3_c (constantI S_ 32 0#32),
   unary main_call3_c main_call3_v0 (broadcastInDim S1x12x4096x1 ![] bcast_S_S1x12x4096x1),
   binary main_v53 main_call3_v0 main_call3_v1 (cmpi .slt),
   nullary main_call3_c_0 (constantI S_ 32 2048#32),
   unary main_call3_c_0 main_call3_v2 (broadcastInDim S1x12x4096x1 ![] bcast_S_S1x12x4096x1),
   binary main_v53 main_call3_v2 main_call3_v3 addi,
   ternary main_call3_v1 main_call3_v3 main_v53 main_call3_v4 select,
   reshape main_call3_v4 main_call3_v5 (rfl : (.i32 : EltTy) = .i32) shapeCasts_S1x12x4096x1_S12x4096x1,
   nullary main_call3_c_1 (constantI S1 32 2047#32),
   nullary main_call3_c_2 (constantI S_ 32 0#32),
   unary main_call3_c_2 main_call3_v6 (broadcastInDim S12x4096x1 ![] bcast_S_S12x4096x1),
   binary main_call3_v5 main_call3_v6 main_call3_v7 (cmpi .sge),
   unary main_call3_c_1 main_call3_v8 (broadcastInDim S1x1x1 ![2] bcast_S1_S1x1x1_2),
   unary main_call3_v8 main_call3_v9 (broadcastInDim S12x4096x1 ![0, 1, 2] bcast_S1x1x1_S12x4096x1_0_1_2),
   binary main_call3_v5 main_call3_v9 main_call3_v10 (cmpi .sle),
   binary main_call3_v7 main_call3_v10 main_call3_v11 andi,
   nullary main_call3_c_3 (constantI S_ 1 1#1),
   binary main_call3_v11 main_call3_c_3 main_call3_v12 (fun x v => Host.reduce IntOp.andi x v reducesTo_S12x4096x1_S12x4096_d2 h_S_),
   binary main_v1 main_call3_v5 main_call3_v13 (fun x i => Host.gather gather_S1x12x2048x64_S12x4096x1_S1x12x4096x64_03_2_1_0_2_2_11164 x i),
   unary main_call3_v12 main_call3_v14 (broadcastInDim S1x12x4096x64 ![1, 2] bcast_S12x4096_S1x12x4096x64_1_2),
   nullary main_call3_cst (constant S_ .f32 0x7FC00000#32),
   unary main_call3_cst main_call3_v15 (broadcastInDim S1x12x4096x64 ![] bcast_S_S1x12x4096x64),
   ternary main_call3_v14 main_call3_v13 main_call3_v15 main_v54 select,
   reshape main_v54 main_v55 (rfl : (.f32 : EltTy) = .f32) shapeCasts_S1x12x4096x64_S1x12x2x2048x64,
   unary main_v49 main_v56 (broadcastInDim S1x12x4096x1 ![0, 1, 2] bcast_S1x12x4096_S1x12x4096x1_0_1_2 : (⟨S1x12x4096, .i32⟩ : BufTy).Contents (Elt F) → (⟨S1x12x4096x1, .i32⟩ : BufTy).Contents (Elt F))]

/-- What `s7` writes, in order. -/
abbrev s7W : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v54, main_v55, main_v56]

theorem s7_writes : (s7 : List (HloOp τ sig (Elt F))).map HloOp.writes = s7W.map fun w => {Proc.devRef (τ := τ) .tc w} := rfl

/-- `s7` leaves what it does not write. -/
theorem s7_keep (V : Valuation τ sig (Elt F)) (r : Ref sig .tc) (h : r ∉ s7W) :
    after s7 V (Proc.devRef .tc r) = V (Proc.devRef .tc r) :=
  after_unwritten s7W s7_writes h V

theorem s7_sub : (s7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub ..⟩

theorem s7_fresh : (s7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- Operations 124 to 147 of the reference. -/
def s8 : List (HloOp τ sig (Elt F)) :=
  [nullary main_call4_c (constantI S_ 32 0#32),
   unary main_call4_c main_call4_v0 (broadcastInDim S1x12x4096x1 ![] bcast_S_S1x12x4096x1),
   binary main_v56 main_call4_v0 main_call4_v1 (cmpi .slt),
   nullary main_call4_c_0 (constantI S_ 32 2048#32),
   unary main_call4_c_0 main_call4_v2 (broadcastInDim S1x12x4096x1 ![] bcast_S_S1x12x4096x1),
   binary main_v56 main_call4_v2 main_call4_v3 addi,
   ternary main_call4_v1 main_call4_v3 main_v56 main_call4_v4 select,
   reshape main_call4_v4 main_call4_v5 (rfl : (.i32 : EltTy) = .i32) shapeCasts_S1x12x4096x1_S12x4096x1,
   nullary main_call4_c_1 (constantI S1 32 2047#32),
   nullary main_call4_c_2 (constantI S_ 32 0#32),
   unary main_call4_c_2 main_call4_v6 (broadcastInDim S12x4096x1 ![] bcast_S_S12x4096x1),
   binary main_call4_v5 main_call4_v6 main_call4_v7 (cmpi .sge),
   unary main_call4_c_1 main_call4_v8 (broadcastInDim S1x1x1 ![2] bcast_S1_S1x1x1_2),
   unary main_call4_v8 main_call4_v9 (broadcastInDim S12x4096x1 ![0, 1, 2] bcast_S1x1x1_S12x4096x1_0_1_2),
   binary main_call4_v5 main_call4_v9 main_call4_v10 (cmpi .sle),
   binary main_call4_v7 main_call4_v10 main_call4_v11 andi,
   nullary main_call4_c_3 (constantI S_ 1 1#1),
   binary main_call4_v11 main_call4_c_3 main_call4_v12 (fun x v => Host.reduce IntOp.andi x v reducesTo_S12x4096x1_S12x4096_d2 h_S_),
   binary main_v2 main_call4_v5 main_call4_v13 (fun x i => Host.gather gather_S1x12x2048x64_S12x4096x1_S1x12x4096x64_03_2_1_0_2_2_11164 x i),
   unary main_call4_v12 main_call4_v14 (broadcastInDim S1x12x4096x64 ![1, 2] bcast_S12x4096_S1x12x4096x64_1_2),
   nullary main_call4_cst (constant S_ .f32 0x7FC00000#32),
   unary main_call4_cst main_call4_v15 (broadcastInDim S1x12x4096x64 ![] bcast_S_S1x12x4096x64),
   ternary main_call4_v14 main_call4_v13 main_call4_v15 main_v57 select,
   reshape main_v57 main_v58 (rfl : (.f32 : EltTy) = .f32) shapeCasts_S1x12x4096x64_S1x12x2x2048x64]

/-- What `s8` writes, in order. -/
abbrev s8W : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v57, main_v58]

theorem s8_writes : (s8 : List (HloOp τ sig (Elt F))).map HloOp.writes = s8W.map fun w => {Proc.devRef (τ := τ) .tc w} := rfl

/-- `s8` leaves what it does not write. -/
theorem s8_keep (V : Valuation τ sig (Elt F)) (r : Ref sig .tc) (h : r ∉ s8W) :
    after s8 V (Proc.devRef .tc r) = V (Proc.devRef .tc r) :=
  after_unwritten s8W s8_writes h V

theorem s8_sub : (s8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩

theorem s8_fresh : (s8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- Operations 148 to 155 of the reference. -/
def s9 : List (HloOp τ sig (Elt F)) :=
  [unary main_arg4 main_v59 (broadcastInDim S1x12x2x1x64 ![1, 2, 3, 4] bcast_S12x2x1x64_S1x12x2x1x64_1_2_3_4 : (⟨S12x2x1x64, .f32⟩ : BufTy).Contents (Elt F) → (⟨S1x12x2x1x64, .f32⟩ : BufTy).Contents (Elt F)),
   unary main_arg5 main_v60 (broadcastInDim S1x12x2x1x64 ![1, 2, 3, 4] bcast_S12x2x1x64_S1x12x2x1x64_1_2_3_4 : (⟨S12x2x1x64, .f32⟩ : BufTy).Contents (Elt F) → (⟨S1x12x2x1x64, .f32⟩ : BufTy).Contents (Elt F)),
   binary main_v59 main_v55 main_v61 memBefore,
   binary main_v60 main_v58 main_v62 memBefore,
   binary main_v52 main_v61 main_v63 ((fun l r => Host.dotGeneral dot_S1x12x2x2048x64_S1x12x2x2049x64_S1x12x2x2048x2049_4_4_3_3_012_012 none l r) : (⟨S1x12x2x2048x64, .f32⟩ : BufTy).Contents (Elt F) → (⟨S1x12x2x2049x64, .f32⟩ : BufTy).Contents (Elt F) → (⟨S1x12x2x2048x2049, .f32⟩ : BufTy).Contents (Elt F)),
   nullary main_cst_10 (constant S_ .f32 0x3E000000#32),
   unary main_cst_10 main_v64 (broadcastInDim S1x12x2x2048x2049 ![] bcast_S_S1x12x2x2048x2049 : (⟨S_, .f32⟩ : BufTy).Contents (Elt F) → (⟨S1x12x2x2048x2049, .f32⟩ : BufTy).Contents (Elt F)),
   binary main_v63 main_v64 main_v65 (mulf : (⟨S1x12x2x2048x2049, .f32⟩ : BufTy).Contents (Elt F) → (⟨S1x12x2x2048x2049, .f32⟩ : BufTy).Contents (Elt F) → (⟨S1x12x2x2048x2049, .f32⟩ : BufTy).Contents (Elt F))]

/-- What `s9` writes, in order. -/
abbrev s9W : List (Ref sig .tc) :=
  [main_v59, main_v60, main_v61, main_v62, main_v63, main_cst_10, main_v64, main_v65]

theorem s9_writes : (s9 : List (HloOp τ sig (Elt F))).map HloOp.writes = s9W.map fun w => {Proc.devRef (τ := τ) .tc w} := rfl

/-- `s9` leaves what it does not write. -/
theorem s9_keep (V : Valuation τ sig (Elt F)) (r : Ref sig .tc) (h : r ∉ s9W) :
    after s9 V (Proc.devRef .tc r) = V (Proc.devRef .tc r) :=
  after_unwritten s9W s9_writes h V

theorem s9_sub : (s9 : List (HloOp τ sig (Elt F))).Forall fun op => op.bufs ⊆ tcRefs τ sig :=
  ⟨unary_bufs_sub .., unary_bufs_sub .., binary_bufs_sub .., binary_bufs_sub .., binary_bufs_sub .., nullary_bufs_sub .., unary_bufs_sub .., binary_bufs_sub ..⟩

theorem s9_fresh : (s9 : List (HloOp τ sig (Elt F))).Forall fun op => op.fresh = ∅ :=
  ⟨rfl, rfl, rfl, rfl, rfl, rfl, rfl, rfl⟩

/-- Operations 156 to 167 of the reference. -/
def s10 : List (HloOp τ sig (Elt F)) :=
  [nullary main_c_11 (constantI S_ 32 4294967295#32),
   unary main_c_11 main_v66 (broadcastInDim S1x12x2x1 ![] bcast_S_S1x12x2x1 : (⟨S_, .i32⟩ : BufTy).Contents (Elt F) → (⟨S1x12x2x1, .i32⟩ : BufTy).Contents (Elt F)),
   binary main_v66 main_indices main_v67 markBefore,
   unary main_indices main_v68 (broadcastInDim S1x12x2x2048x1 ![0, 1, 2, 3] bcast_S1x12x2x2048_S1x12x2x2048x1_0_1_2_3 : (⟨S1x12x2x2048, .i32⟩ : BufTy).Contents (Elt F) → (⟨S1x12x2x2048x1, .i32⟩ : BufTy).Contents (Elt F)),
   unary main_v67 main_v69 (broadcastInDim S1x12x2x1x2049 ![0, 1, 2, 4] bcast_S1x12x2x2049_S1x12x2x1x2049_0_1_2_4 : (⟨S1x12x2x2049, .i32⟩ : BufTy).Contents (Elt F) → (⟨S1x12x2x1x2049, .i32⟩ : BufTy).Contents (Elt F)),
   unary main_v68 main_v70 (broadcastInDim S1x12x2x2048x2049 ![0, 1, 2, 3, 4] bcast_S1x12x2x2048x1_S1x12x2x2048x2049_0_1_2_3_4 : (⟨S1x12x2x2048x1, .i32⟩ : BufTy).Contents (Elt F) → (⟨S1x12x2x2048x2049, .i32⟩ : BufTy).Contents (Elt F)),
   unary main_v69 main_v71 (broadcastInDim S1x12x2x2048x2049 ![0, 1, 2, 3, 4] bcast_S1x12x2x1x2049_S1x12x2x2048x2049_0_1_2_3_4 : (⟨S1x12x2x1x2049, .i32⟩ : BufTy).Contents (Elt F) → (⟨S1x12x2x2048x2049, .i32⟩ : BufTy).Contents (Elt F)),
   binary main_v70 main_v71 main_v72 (cmpi .eq : (⟨S1x12x2x2048x2049, .i32⟩ : BufTy).Contents (Elt F) → (⟨S1x12x2x2048x2049, .i32⟩ : BufTy).Contents (Elt F) → (⟨S1x12x2x2048x2049, .i1⟩ : BufTy).Contents (Elt F)),
   nullary main_cst_12 (constant S_ .f32 0xFF800000#32),
   unary main_cst_12 main_call5_v0 id,
   unary main_call5_v0 main_call5_v1 (broadcastInDim S1x12x2x2048x2049 ![] bcast_S_S1x12x2x2048x2049),
   ternary main_v72 main_call5_v1 main_v65 main_v73 select]

/-- What `s10` writes, in order. -/
abbrev s10W : List (Ref sig .tc) :=
  [main_c_11, main_v66, main_v67, main_v68, main_v69, main_v70, main_v71, main_v72, main_cst_12, main_call5_v0, main_call5_v1, main_v73]

theorem s10_writes : (s10 : List (HloOp τ sig (Elt F))).map HloOp.writes = s10W.map fun w => {Proc.devRef (τ := τ) .tc w} := rfl

/-- `s10` leaves what it does not write. -/
theorem s10_keep (V : Valuation τ sig (Elt F)) (r : Ref sig .tc) (h : r ∉ s10W) :
    after s10 V (Proc.devRef .tc r) = V (Proc.devRef .tc r) :=
  after_unwritten s10W s10_writes h V

theorem s10_sub : (s10 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., binary_bufs_sub .., nullary_bufs_sub .., unary_bufs_sub .., unary_bufs_sub .., ternary_bufs_sub ..⟩

theorem s10_fresh : (s10 : List (HloOp τ sig (Elt F))).Forall fun op => op.fresh = ∅ :=
  ⟨rfl, rfl, rfl, rfl, rfl, rfl, rfl, rfl, rfl, rfl, rfl, rfl⟩

/-- Operations 168 to 181 of the reference. -/
def s11 : List (HloOp τ sig (Elt F)) :=
  [nullary main_cst_13 (constant S_ .f32 0xFF800000#32),
   binary main_v73 main_cst_13 main_v74 ((fun x v => Host.reduce FloatOps.maximumf x v reducesTo_S1x12x2x2048x2049_S1x12x2x2048_d4 h_S_) : (⟨S1x12x2x2048x2049, .f32⟩ : BufTy).Contents (Elt F) → (⟨S_, .f32⟩ : BufTy).Contents (Elt F) → (⟨S1x12x2x2048, .f32⟩ : BufTy).Contents (Elt F)),
   nullary main_cst_14 (constant S_ .f32 0xFF800000#32),
   unary main_cst_14 main_v75 (broadcastInDim S1x12x2x2048 ![] bcast_S_S1x12x2x2048 : (⟨S_, .f32⟩ : BufTy).Contents (Elt F) → (⟨S1x12x2x2048, .f32⟩ : BufTy).Contents (Elt F)),
   binary main_v75 main_v74 main_v76 (maximumf : (⟨S1x12x2x2048, .f32⟩ : BufTy).Contents (Elt F) → (⟨S1x12x2x2048, .f32⟩ : BufTy).Contents (Elt F) → (⟨S1x12x2x2048, .f32⟩ : BufTy).Contents (Elt F)),
   unary main_v76 main_v77 (broadcastInDim S1x12x2x2048x1 ![0, 1, 2, 3] bcast_S1x12x2x2048_S1x12x2x2048x1_0_1_2_3 : (⟨S1x12x2x2048, .f32⟩ : BufTy).Contents (Elt F) → (⟨S1x12x2x2048x1, .f32⟩ : BufTy).Contents (Elt F)),
   unary main_v77 main_v78 (broadcastInDim S1x12x2x2048x2049 ![0, 1, 2, 3, 4] bcast_S1x12x2x2048x1_S1x12x2x2048x2049_0_1_2_3_4 : (⟨S1x12x2x2048x1, .f32⟩ : BufTy).Contents (Elt F) → (⟨S1x12x2x2048x2049, .f32⟩ : BufTy).Contents (Elt F)),
   binary main_v73 main_v78 main_v79 (subf : (⟨S1x12x2x2048x2049, .f32⟩ : BufTy).Contents (Elt F) → (⟨S1x12x2x2048x2049, .f32⟩ : BufTy).Contents (Elt F) → (⟨S1x12x2x2048x2049, .f32⟩ : BufTy).Contents (Elt F)),
   unary main_v79 main_v80 (Host.exp : (⟨S1x12x2x2048x2049, .f32⟩ : BufTy).Contents (Elt F) → (⟨S1x12x2x2048x2049, .f32⟩ : BufTy).Contents (Elt F)),
   nullary main_cst_15 (constant S_ .f32 0x00000000#32),
   binary main_v80 main_cst_15 main_v81 ((fun x v => Host.reduceAdd x v reducesTo_S1x12x2x2048x2049_S1x12x2x2048_d4 h_S_) : (⟨S1x12x2x2048x2049, .f32⟩ : BufTy).Contents (Elt F) → (⟨S_, .f32⟩ : BufTy).Contents (Elt F) → (⟨S1x12x2x2048, .f32⟩ : BufTy).Contents (Elt F)),
   unary main_v81 main_v82 (broadcastInDim S1x12x2x2048x1 ![0, 1, 2, 3] bcast_S1x12x2x2048_S1x12x2x2048x1_0_1_2_3 : (⟨S1x12x2x2048, .f32⟩ : BufTy).Contents (Elt F) → (⟨S1x12x2x2048x1, .f32⟩ : BufTy).Contents (Elt F)),
   unary main_v82 main_v83 (broadcastInDim S1x12x2x2048x2049 ![0, 1, 2, 3, 4] bcast_S1x12x2x2048x1_S1x12x2x2048x2049_0_1_2_3_4 : (⟨S1x12x2x2048x1, .f32⟩ : BufTy).Contents (Elt F) → (⟨S1x12x2x2048x2049, .f32⟩ : BufTy).Contents (Elt F)),
   binary main_v80 main_v83 main_v84 (Host.divf : (⟨S1x12x2x2048x2049, .f32⟩ : BufTy).Contents (Elt F) → (⟨S1x12x2x2048x2049, .f32⟩ : BufTy).Contents (Elt F) → (⟨S1x12x2x2048x2049, .f32⟩ : BufTy).Contents (Elt F))]

/-- What `s11` writes, in order. -/
abbrev s11W : List (Ref sig .tc) :=
  [main_cst_13, main_v74, main_cst_14, main_v75, main_v76, main_v77, main_v78, main_v79, main_v80, main_cst_15, main_v81, main_v82, main_v83, main_v84]

theorem s11_writes : (s11 : List (HloOp τ sig (Elt F))).map HloOp.writes = s11W.map fun w => {Proc.devRef (τ := τ) .tc w} := rfl

/-- `s11` leaves what it does not write. -/
theorem s11_keep (V : Valuation τ sig (Elt F)) (r : Ref sig .tc) (h : r ∉ s11W) :
    after s11 V (Proc.devRef .tc r) = V (Proc.devRef .tc r) :=
  after_unwritten s11W s11_writes h V

theorem s11_sub : (s11 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem s11_fresh : (s11 : List (HloOp τ sig (Elt F))).Forall fun op => op.fresh = ∅ :=
  ⟨rfl, rfl, rfl, rfl, rfl, rfl, rfl, rfl, rfl, rfl, rfl, rfl, rfl, rfl⟩

/-- Operations 182 to 183 of the reference. -/
def s12 : List (HloOp τ sig (Elt F)) :=
  [binary main_v84 main_v62 main_v85 ((fun l r => Host.dotGeneral dot_S1x12x2x2048x2049_S1x12x2x2049x64_S1x12x2x2048x64_4_3_3_4_012_012 none l r) : (⟨S1x12x2x2048x2049, .f32⟩ : BufTy).Contents (Elt F) → (⟨S1x12x2x2049x64, .f32⟩ : BufTy).Contents (Elt F) → (⟨S1x12x2x2048x64, .f32⟩ : BufTy).Contents (Elt F)),
   reshape main_v85 main_v86 (rfl : (.f32 : EltTy) = .f32) shapeCasts_S1x12x2x2048x64_S1x12x4096x64]

/-- What `s12` writes, in order. -/
abbrev s12W : List (Ref sig .tc) :=
  [main_v85, main_v86]

theorem s12_writes : (s12 : List (HloOp τ sig (Elt F))).map HloOp.writes = s12W.map fun w => {Proc.devRef (τ := τ) .tc w} := rfl

/-- `s12` leaves what it does not write. -/
theorem s12_keep (V : Valuation τ sig (Elt F)) (r : Ref sig .tc) (h : r ∉ s12W) :
    after s12 V (Proc.devRef .tc r) = V (Proc.devRef .tc r) :=
  after_unwritten s12W s12_writes h V

theorem s12_sub : (s12 : List (HloOp τ sig (Elt F))).Forall fun op => op.bufs ⊆ tcRefs τ sig :=
  ⟨binary_bufs_sub .., reshape_bufs_sub ..⟩

theorem s12_fresh : (s12 : List (HloOp τ sig (Elt F))).Forall fun op => op.fresh = ∅ :=
  ⟨rfl, rfl⟩

/-- Operations 184 to 196 of the reference. -/
def s13 : List (HloOp τ sig (Elt F)) :=
  [nullary main_v87 (iotaInDim S1 32 0),
   unary main_v87 main_v88 (broadcastInDim S1x1x1 ![0] bcast_S1_S1x1x1_0 : (⟨S1, .i32⟩ : BufTy).Contents (Elt F) → (⟨S1x1x1, .i32⟩ : BufTy).Contents (Elt F)),
   nullary main_v89 (iotaInDim S12 32 0),
   unary main_v89 main_v90 (broadcastInDim S1x12x1 ![1] bcast_S12_S1x12x1_1 : (⟨S12, .i32⟩ : BufTy).Contents (Elt F) → (⟨S1x12x1, .i32⟩ : BufTy).Contents (Elt F)),
   nullary main_cst_16 (constant S_ .f32 0x00000000#32),
   unary main_cst_16 main_v91 (broadcastInDim S1x12x2048x64 ![] bcast_S_S1x12x2048x64 : (⟨S_, .f32⟩ : BufTy).Contents (Elt F) → (⟨S1x12x2048x64, .f32⟩ : BufTy).Contents (Elt F)),
   nullary main_c_17 (constantI S_ 32 0#32),
   unary main_c_17 main_v92 (broadcastInDim S1x1x1 ![] bcast_S_S1x1x1 : (⟨S_, .i32⟩ : BufTy).Contents (Elt F) → (⟨S1x1x1, .i32⟩ : BufTy).Contents (Elt F)),
   binary main_v88 main_v92 main_v93 (cmpi .slt : (⟨S1x1x1, .i32⟩ : BufTy).Contents (Elt F) → (⟨S1x1x1, .i32⟩ : BufTy).Contents (Elt F) → (⟨S1x1x1, .i1⟩ : BufTy).Contents (Elt F)),
   nullary main_c_18 (constantI S_ 32 1#32),
   unary main_c_18 main_v94 (broadcastInDim S1x1x1 ![] bcast_S_S1x1x1 : (⟨S_, .i32⟩ : BufTy).Contents (Elt F) → (⟨S1x1x1, .i32⟩ : BufTy).Contents (Elt F)),
   binary main_v88 main_v94 main_v95 (addi : (⟨S1x1x1, .i32⟩ : BufTy).Contents (Elt F) → (⟨S1x1x1, .i32⟩ : BufTy).Contents (Elt F) → (⟨S1x1x1, .i32⟩ : BufTy).Contents (Elt F)),
   ternary main_v93 main_v95 main_v88 main_v96 (select : (⟨S1x1x1, .i1⟩ : BufTy).Contents (Elt F) → (⟨S1x1x1, .i32⟩ : BufTy).Contents (Elt F) → (⟨S1x1x1, .i32⟩ : BufTy).Contents (Elt F) → (⟨S1x1x1, .i32⟩ : BufTy).Contents (Elt F))]

/-- What `s13` writes, in order. -/
abbrev s13W : List (Ref sig .tc) :=
  [main_v87, main_v88, main_v89, main_v90, main_cst_16, main_v91, main_c_17, main_v92, main_v93, main_c_18, main_v94, main_v95, main_v96]

theorem s13_writes : (s13 : List (HloOp τ sig (Elt F))).map HloOp.writes = s13W.map fun w => {Proc.devRef (τ := τ) .tc w} := rfl

/-- `s13` leaves what it does not write. -/
theorem s13_keep (V : Valuation τ sig (Elt F)) (r : Ref sig .tc) (h : r ∉ s13W) :
    after s13 V (Proc.devRef .tc r) = V (Proc.devRef .tc r) :=
  after_unwritten s13W s13_writes h V

theorem s13_sub : (s13 : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub ..⟩

theorem s13_fresh : (s13 : List (HloOp τ sig (Elt F))).Forall fun op => op.fresh = ∅ :=
  ⟨rfl, rfl, rfl, rfl, rfl, rfl, rfl, rfl, rfl, rfl, rfl, rfl, rfl⟩

/-- Operations 197 to 217 of the reference. -/
def s14 : List (HloOp τ sig (Elt F)) :=
  [nullary main_c_19 (constantI S_ 32 0#32),
   unary main_c_19 main_v97 (broadcastInDim S1x12x1 ![] bcast_S_S1x12x1 : (⟨S_, .i32⟩ : BufTy).Contents (Elt F) → (⟨S1x12x1, .i32⟩ : BufTy).Contents (Elt F)),
   binary main_v90 main_v97 main_v98 (cmpi .slt : (⟨S1x12x1, .i32⟩ : BufTy).Contents (Elt F) → (⟨S1x12x1, .i32⟩ : BufTy).Contents (Elt F) → (⟨S1x12x1, .i1⟩ : BufTy).Contents (Elt F)),
   nullary main_c_20 (constantI S_ 32 12#32),
   unary main_c_20 main_v99 (broadcastInDim S1x12x1 ![] bcast_S_S1x12x1 : (⟨S_, .i32⟩ : BufTy).Contents (Elt F) → (⟨S1x12x1, .i32⟩ : BufTy).Contents (Elt F)),
   binary main_v90 main_v99 main_v100 (addi : (⟨S1x12x1, .i32⟩ : BufTy).Contents (Elt F) → (⟨S1x12x1, .i32⟩ : BufTy).Contents (Elt F) → (⟨S1x12x1, .i32⟩ : BufTy).Contents (Elt F)),
   ternary main_v98 main_v100 main_v90 main_v101 (select : (⟨S1x12x1, .i1⟩ : BufTy).Contents (Elt F) → (⟨S1x12x1, .i32⟩ : BufTy).Contents (Elt F) → (⟨S1x12x1, .i32⟩ : BufTy).Contents (Elt F) → (⟨S1x12x1, .i32⟩ : BufTy).Contents (Elt F)),
   nullary main_c_21 (constantI S_ 32 0#32),
   unary main_c_21 main_v102 (broadcastInDim S1x12x4096 ![] bcast_S_S1x12x4096 : (⟨S_, .i32⟩ : BufTy).Contents (Elt F) → (⟨S1x12x4096, .i32⟩ : BufTy).Contents (Elt F)),
   binary main_v49 main_v102 main_v103 (cmpi .slt : (⟨S1x12x4096, .i32⟩ : BufTy).Contents (Elt F) → (⟨S1x12x4096, .i32⟩ : BufTy).Contents (Elt F) → (⟨S1x12x4096, .i1⟩ : BufTy).Contents (Elt F)),
   nullary main_c_22 (constantI S_ 32 2048#32),
   unary main_c_22 main_v104 (broadcastInDim S1x12x4096 ![] bcast_S_S1x12x4096 : (⟨S_, .i32⟩ : BufTy).Contents (Elt F) → (⟨S1x12x4096, .i32⟩ : BufTy).Contents (Elt F)),
   binary main_v49 main_v104 main_v105 (addi : (⟨S1x12x4096, .i32⟩ : BufTy).Contents (Elt F) → (⟨S1x12x4096, .i32⟩ : BufTy).Contents (Elt F) → (⟨S1x12x4096, .i32⟩ : BufTy).Contents (Elt F)),
   ternary main_v103 main_v105 main_v49 main_v106 (select : (⟨S1x12x4096, .i1⟩ : BufTy).Contents (Elt F) → (⟨S1x12x4096, .i32⟩ : BufTy).Contents (Elt F) → (⟨S1x12x4096, .i32⟩ : BufTy).Contents (Elt F) → (⟨S1x12x4096, .i32⟩ : BufTy).Contents (Elt F)),
   unary main_v96 main_v107 (broadcastInDim S1x12x4096 ![0, 1, 2] bcast_S1x1x1_S1x12x4096_0_1_2 : (⟨S1x1x1, .i32⟩ : BufTy).Contents (Elt F) → (⟨S1x12x4096, .i32⟩ : BufTy).Contents (Elt F)),
   unary main_v101 main_v108 (broadcastInDim S1x12x4096 ![0, 1, 2] bcast_S1x12x1_S1x12x4096_0_1_2 : (⟨S1x12x1, .i32⟩ : BufTy).Contents (Elt F) → (⟨S1x12x4096, .i32⟩ : BufTy).Contents (Elt F)),
   unary main_v107 main_v109 (broadcastInDim S1x12x4096x1 ![0, 1, 2] bcast_S1x12x4096_S1x12x4096x1_0_1_2 : (⟨S1x12x4096, .i32⟩ : BufTy).Contents (Elt F) → (⟨S1x12x4096x1, .i32⟩ : BufTy).Contents (Elt F)),
   unary main_v108 main_v110 (broadcastInDim S1x12x4096x1 ![0, 1, 2] bcast_S1x12x4096_S1x12x4096x1_0_1_2 : (⟨S1x12x4096, .i32⟩ : BufTy).Contents (Elt F) → (⟨S1x12x4096x1, .i32⟩ : BufTy).Contents (Elt F)),
   unary main_v106 main_v111 (broadcastInDim S1x12x4096x1 ![0, 1, 2] bcast_S1x12x4096_S1x12x4096x1_0_1_2 : (⟨S1x12x4096, .i32⟩ : BufTy).Contents (Elt F) → (⟨S1x12x4096x1, .i32⟩ : BufTy).Contents (Elt F)),
   nary ![main_v109, main_v110, main_v111] main_v112 (fun u => placesOf (u 0) (u 1) (u 2)),
   ternary main_v91 main_v112 main_v86 main_v113 ((fun x i u => Host.scatterAdd scatter_S1x12x2048x64_S1x12x4096x3_S1x12x4096x64_3_012_012_3 x i u) : (⟨S1x12x2048x64, .f32⟩ : BufTy).Contents (Elt F) → (⟨S1x12x4096x3, .i32⟩ : BufTy).Contents (Elt F) → (⟨S1x12x4096x64, .f32⟩ : BufTy).Contents (Elt F) → (⟨S1x12x2048x64, .f32⟩ : BufTy).Contents (Elt F))]

/-- What `s14` writes, in order. -/
abbrev s14W : List (Ref sig .tc) :=
  [main_c_19, main_v97, main_v98, main_c_20, main_v99, main_v100, main_v101, main_c_21, main_v102, main_v103, main_c_22, main_v104, main_v105, main_v106, main_v107, main_v108, main_v109, main_v110, main_v111, main_v112, main_v113]

theorem s14_writes : (s14 : List (HloOp τ sig (Elt F))).map HloOp.writes = s14W.map fun w => {Proc.devRef (τ := τ) .tc w} := rfl

/-- `s14` leaves what it does not write. -/
theorem s14_keep (V : Valuation τ sig (Elt F)) (r : Ref sig .tc) (h : r ∉ s14W) :
    after s14 V (Proc.devRef .tc r) = V (Proc.devRef .tc r) :=
  after_unwritten s14W s14_writes h V

theorem s14_sub : (s14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., ternary_bufs_sub ..⟩

theorem s14_fresh : (s14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Operations 218 to 249 of the reference. -/
def s15 : List (HloOp τ sig (Elt F)) :=
  [nullary main_cst_23 (constant S_ .f32 0x00000000#32),
   unary main_cst_23 main_v114 (broadcastInDim S1x12x2048x64 ![] bcast_S_S1x12x2048x64 : (⟨S_, .f32⟩ : BufTy).Contents (Elt F) → (⟨S1x12x2048x64, .f32⟩ : BufTy).Contents (Elt F)),
   nullary main_cst_24 (constant S_ .f32 0x3F800000#32),
   unary main_cst_24 main_v115 (broadcastInDim S1x12x4096x64 ![] bcast_S_S1x12x4096x64 : (⟨S_, .f32⟩ : BufTy).Contents (Elt F) → (⟨S1x12x4096x64, .f32⟩ : BufTy).Contents (Elt F)),
   nullary main_c_25 (constantI S_ 32 0#32),
   unary main_c_25 main_v116 (broadcastInDim S1x1x1 ![] bcast_S_S1x1x1 : (⟨S_, .i32⟩ : BufTy).Contents (Elt F) → (⟨S1x1x1, .i32⟩ : BufTy).Contents (Elt F)),
   binary main_v88 main_v116 main_v117 (cmpi .slt : (⟨S1x1x1, .i32⟩ : BufTy).Contents (Elt F) → (⟨S1x1x1, .i32⟩ : BufTy).Contents (Elt F) → (⟨S1x1x1, .i1⟩ : BufTy).Contents (Elt F)),
   nullary main_c_26 (constantI S_ 32 1#32),
   unary main_c_26 main_v118 (broadcastInDim S1x1x1 ![] bcast_S_S1x1x1 : (⟨S_, .i32⟩ : BufTy).Contents (Elt F) → (⟨S1x1x1, .i32⟩ : BufTy).Contents (Elt F)),
   binary main_v88 main_v118 main_v119 (addi : (⟨S1x1x1, .i32⟩ : BufTy).Contents (Elt F) → (⟨S1x1x1, .i32⟩ : BufTy).Contents (Elt F) → (⟨S1x1x1, .i32⟩ : BufTy).Contents (Elt F)),
   ternary main_v117 main_v119 main_v88 main_v120 (select : (⟨S1x1x1, .i1⟩ : BufTy).Contents (Elt F) → (⟨S1x1x1, .i32⟩ : BufTy).Contents (Elt F) → (⟨S1x1x1, .i32⟩ : BufTy).Contents (Elt F) → (⟨S1x1x1, .i32⟩ : BufTy).Contents (Elt F)),
   nullary main_c_27 (constantI S_ 32 0#32),
   unary main_c_27 main_v121 (broadcastInDim S1x12x1 ![] bcast_S_S1x12x1 : (⟨S_, .i32⟩ : BufTy).Contents (Elt F) → (⟨S1x12x1, .i32⟩ : BufTy).Contents (Elt F)),
   binary main_v90 main_v121 main_v122 (cmpi .slt : (⟨S1x12x1, .i32⟩ : BufTy).Contents (Elt F) → (⟨S1x12x1, .i32⟩ : BufTy).Contents (Elt F) → (⟨S1x12x1, .i1⟩ : BufTy).Contents (Elt F)),
   nullary main_c_28 (constantI S_ 32 12#32),
   unary main_c_28 main_v123 (broadcastInDim S1x12x1 ![] bcast_S_S1x12x1 : (⟨S_, .i32⟩ : BufTy).Contents (Elt F) → (⟨S1x12x1, .i32⟩ : BufTy).Contents (Elt F)),
   binary main_v90 main_v123 main_v124 (addi : (⟨S1x12x1, .i32⟩ : BufTy).Contents (Elt F) → (⟨S1x12x1, .i32⟩ : BufTy).Contents (Elt F) → (⟨S1x12x1, .i32⟩ : BufTy).Contents (Elt F)),
   ternary main_v122 main_v124 main_v90 main_v125 (select : (⟨S1x12x1, .i1⟩ : BufTy).Contents (Elt F) → (⟨S1x12x1, .i32⟩ : BufTy).Contents (Elt F) → (⟨S1x12x1, .i32⟩ : BufTy).Contents (Elt F) → (⟨S1x12x1, .i32⟩ : BufTy).Contents (Elt F)),
   nullary main_c_29 (constantI S_ 32 0#32),
   unary main_c_29 main_v126 (broadcastInDim S1x12x4096 ![] bcast_S_S1x12x4096 : (⟨S_, .i32⟩ : BufTy).Contents (Elt F) → (⟨S1x12x4096, .i32⟩ : BufTy).Contents (Elt F)),
   binary main_v49 main_v126 main_v127 (cmpi .slt : (⟨S1x12x4096, .i32⟩ : BufTy).Contents (Elt F) → (⟨S1x12x4096, .i32⟩ : BufTy).Contents (Elt F) → (⟨S1x12x4096, .i1⟩ : BufTy).Contents (Elt F)),
   nullary main_c_30 (constantI S_ 32 2048#32),
   unary main_c_30 main_v128 (broadcastInDim S1x12x4096 ![] bcast_S_S1x12x4096 : (⟨S_, .i32⟩ : BufTy).Contents (Elt F) → (⟨S1x12x4096, .i32⟩ : BufTy).Contents (Elt F)),
   binary main_v49 main_v128 main_v129 (addi : (⟨S1x12x4096, .i32⟩ : BufTy).Contents (Elt F) → (⟨S1x12x4096, .i32⟩ : BufTy).Contents (Elt F) → (⟨S1x12x4096, .i32⟩ : BufTy).Contents (Elt F)),
   ternary main_v127 main_v129 main_v49 main_v130 (select : (⟨S1x12x4096, .i1⟩ : BufTy).Contents (Elt F) → (⟨S1x12x4096, .i32⟩ : BufTy).Contents (Elt F) → (⟨S1x12x4096, .i32⟩ : BufTy).Contents (Elt F) → (⟨S1x12x4096, .i32⟩ : BufTy).Contents (Elt F)),
   unary main_v120 main_v131 (broadcastInDim S1x12x4096 ![0, 1, 2] bcast_S1x1x1_S1x12x4096_0_1_2 : (⟨S1x1x1, .i32⟩ : BufTy).Contents (Elt F) → (⟨S1x12x4096, .i32⟩ : BufTy).Contents (Elt F)),
   unary main_v125 main_v132 (broadcastInDim S1x12x4096 ![0, 1, 2] bcast_S1x12x1_S1x12x4096_0_1_2 : (⟨S1x12x1, .i32⟩ : BufTy).Contents (Elt F) → (⟨S1x12x4096, .i32⟩ : BufTy).Contents (Elt F)),
   unary main_v131 main_v133 (broadcastInDim S1x12x4096x1 ![0, 1, 2] bcast_S1x12x4096_S1x12x4096x1_0_1_2 : (⟨S1x12x4096, .i32⟩ : BufTy).Contents (Elt F) → (⟨S1x12x4096x1, .i32⟩ : BufTy).Contents (Elt F)),
   unary main_v132 main_v134 (broadcastInDim S1x12x4096x1 ![0, 1, 2] bcast_S1x12x4096_S1x12x4096x1_0_1_2 : (⟨S1x12x4096, .i32⟩ : BufTy).Contents (Elt F) → (⟨S1x12x4096x1, .i32⟩ : BufTy).Contents (Elt F)),
   unary main_v130 main_v135 (broadcastInDim S1x12x4096x1 ![0, 1, 2] bcast_S1x12x4096_S1x12x4096x1_0_1_2 : (⟨S1x12x4096, .i32⟩ : BufTy).Contents (Elt F) → (⟨S1x12x4096x1, .i32⟩ : BufTy).Contents (Elt F)),
   nary ![main_v133, main_v134, main_v135] main_v136 (fun u => placesOf (u 0) (u 1) (u 2)),
   ternary main_v114 main_v136 main_v115 main_v137 ((fun x i u => Host.scatterAdd scatter_S1x12x2048x64_S1x12x4096x3_S1x12x4096x64_3_012_012_3 x i u) : (⟨S1x12x2048x64, .f32⟩ : BufTy).Contents (Elt F) → (⟨S1x12x4096x3, .i32⟩ : BufTy).Contents (Elt F) → (⟨S1x12x4096x64, .f32⟩ : BufTy).Contents (Elt F) → (⟨S1x12x2048x64, .f32⟩ : BufTy).Contents (Elt F))]

/-- What `s15` writes, in order. -/
abbrev s15W : List (Ref sig .tc) :=
  [main_cst_23, main_v114, main_cst_24, main_v115, main_c_25, main_v116, main_v117, main_c_26, main_v118, main_v119, main_v120, main_c_27, main_v121, main_v122, main_c_28, main_v123, main_v124, main_v125, main_c_29, main_v126, main_v127, main_c_30, main_v128, main_v129, main_v130, main_v131, main_v132, main_v133, main_v134, main_v135, main_v136, main_v137]

theorem s15_writes : (s15 : List (HloOp τ sig (Elt F))).map HloOp.writes = s15W.map fun w => {Proc.devRef (τ := τ) .tc w} := rfl

/-- `s15` leaves what it does not write. -/
theorem s15_keep (V : Valuation τ sig (Elt F)) (r : Ref sig .tc) (h : r ∉ s15W) :
    after s15 V (Proc.devRef .tc r) = V (Proc.devRef .tc r) :=
  after_unwritten s15W s15_writes h V

theorem s15_sub : (s15 : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., ternary_bufs_sub ..⟩

theorem s15_fresh : (s15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 250 to 253 of the reference. -/
def s16 : List (HloOp τ sig (Elt F)) :=
  [nullary main_cst_31 (constant S_ .f32 0x3727C5AC#32),
   unary main_cst_31 main_v138 (broadcastInDim S1x12x2048x64 ![] bcast_S_S1x12x2048x64 : (⟨S_, .f32⟩ : BufTy).Contents (Elt F) → (⟨S1x12x2048x64, .f32⟩ : BufTy).Contents (Elt F)),
   binary main_v137 main_v138 main_v139 (addf : (⟨S1x12x2048x64, .f32⟩ : BufTy).Contents (Elt F) → (⟨S1x12x2048x64, .f32⟩ : BufTy).Contents (Elt F) → (⟨S1x12x2048x64, .f32⟩ : BufTy).Contents (Elt F)),
   binary main_v113 main_v139 main_v140 (Host.divf : (⟨S1x12x2048x64, .f32⟩ : BufTy).Contents (Elt F) → (⟨S1x12x2048x64, .f32⟩ : BufTy).Contents (Elt F) → (⟨S1x12x2048x64, .f32⟩ : BufTy).Contents (Elt F))]

/-- What `s16` writes, in order. -/
abbrev s16W : List (Ref sig .tc) :=
  [main_cst_31, main_v138, main_v139, main_v140]

theorem s16_writes : (s16 : List (HloOp τ sig (Elt F))).map HloOp.writes = s16W.map fun w => {Proc.devRef (τ := τ) .tc w} := rfl

/-- `s16` leaves what it does not write. -/
theorem s16_keep (V : Valuation τ sig (Elt F)) (r : Ref sig .tc) (h : r ∉ s16W) :
    after s16 V (Proc.devRef .tc r) = V (Proc.devRef .tc r) :=
  after_unwritten s16W s16_writes h V

theorem s16_sub : (s16 : List (HloOp τ sig (Elt F))).Forall fun op => op.bufs ⊆ tcRefs τ sig :=
  ⟨nullary_bufs_sub .., unary_bufs_sub .., binary_bufs_sub .., binary_bufs_sub ..⟩

theorem s16_fresh : (s16 : List (HloOp τ sig (Elt F))).Forall fun op => op.fresh = ∅ :=
  ⟨rfl, rfl, rfl, rfl⟩

end Cert.Ref

end
-- ==== Proof.RefSteps.lean ====
/-
  What each list of operations leaves at the arrays that later lists read, as the functions of RefFun.
-/
module

public import proofs.«01_k».proof.Proof.Gen.ReferenceIdeal
public import proofs.«01_k».proof.Proof.RefOps

@[expose] public section

set_option maxRecDepth 16384
set_option Elab.async false

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

theorem s1_v0 (V : Valuation τ sig (Elt F)) :
    after s1 V (Proc.devRef .tc main_v0) = (heads (V (Proc.devRef .tc main_arg0))) := by
  simp only [s1]
  after_results_simp <;> rfl

theorem s1_v1 (V : Valuation τ sig (Elt F)) :
    after s1 V (Proc.devRef .tc main_v1) = (heads (V (Proc.devRef .tc main_arg1))) := by
  simp only [s1]
  after_results_simp <;> rfl

theorem s1_v2 (V : Valuation τ sig (Elt F)) :
    after s1 V (Proc.devRef .tc main_v2) = (heads (V (Proc.devRef .tc main_arg2))) := by
  simp only [s1]
  after_results_simp <;> rfl

theorem s1_v7 (V : Valuation τ sig (Elt F)) :
    after s1 V (Proc.devRef .tc main_v7) = (normed (heads (V (Proc.devRef .tc main_arg0)))) := by
  simp only [s1]
  after_results_simp <;> rfl

theorem s2_v24 (V : Valuation τ sig (Elt F)) :
    after s2 V (Proc.devRef .tc main_v24) = (dists (V (Proc.devRef .tc main_v7)) (V (Proc.devRef .tc main_arg3))) := by
  simp only [s2]
  after_results_simp <;> rfl

theorem s3_v42 (V : Valuation τ sig (Elt F)) :
    after s3 V (Proc.devRef .tc main_v42) = (routed (bucket (V (Proc.devRef .tc main_v24))) (V (Proc.devRef .tc main_arg3))) := by
  simp only [s3]
  after_results_simp <;> rfl

theorem s4_v47 (V : Valuation τ sig (Elt F)) :
    after s4 V (Proc.devRef .tc main_v47) = (auxOf (V (Proc.devRef .tc main_v7)) (V (Proc.devRef .tc main_v42))) := by
  simp only [s4]
  after_results_simp <;> rfl

theorem s5_indices (V : Valuation τ sig (Elt F)) :
    after s5 V (Proc.devRef .tc main_indices) = (order (V (Proc.devRef .tc main_v24))) := by
  simp only [s5]
  after_results_simp <;> rfl

theorem s5_v49 (V : Valuation τ sig (Elt F)) :
    after s5 V (Proc.devRef .tc main_v49) = (flat (order (V (Proc.devRef .tc main_v24)))) := by
  simp only [s5]
  after_results_simp <;> rfl

theorem s5_v50 (V : Valuation τ sig (Elt F)) :
    after s5 V (Proc.devRef .tc main_v50) = (column (flat (order (V (Proc.devRef .tc main_v24))))) := by
  simp only [s5]
  after_results_simp <;> rfl

theorem s6_v52 (V : Valuation τ sig (Elt F)) :
    after s6 V (Proc.devRef .tc main_v52) = (perCluster (taken (V (Proc.devRef .tc main_v0)) (V (Proc.devRef .tc main_v50)))) := by
  simp only [s6]
  after_results_simp <;> rfl

theorem s6_v53 (V : Valuation τ sig (Elt F)) :
    after s6 V (Proc.devRef .tc main_v53) = (column (V (Proc.devRef .tc main_v49))) := by
  simp only [s6]
  after_results_simp <;> rfl

theorem s7_v55 (V : Valuation τ sig (Elt F)) :
    after s7 V (Proc.devRef .tc main_v55) = (perCluster (taken (V (Proc.devRef .tc main_v1)) (V (Proc.devRef .tc main_v53)))) := by
  simp only [s7]
  after_results_simp <;> rfl

theorem s7_v56 (V : Valuation τ sig (Elt F)) :
    after s7 V (Proc.devRef .tc main_v56) = (column (V (Proc.devRef .tc main_v49))) := by
  simp only [s7]
  after_results_simp <;> rfl

theorem s8_v58 (V : Valuation τ sig (Elt F)) :
    after s8 V (Proc.devRef .tc main_v58) = (perCluster (taken (V (Proc.devRef .tc main_v2)) (V (Proc.devRef .tc main_v56)))) := by
  simp only [s8]
  after_results_simp <;> rfl

theorem s9_v62 (V : Valuation τ sig (Elt F)) :
    after s9 V (Proc.devRef .tc main_v62) = (withMem (V (Proc.devRef .tc main_arg5)) (V (Proc.devRef .tc main_v58))) := by
  simp only [s9]
  after_results_simp <;> rfl

theorem s9_v65 (V : Valuation τ sig (Elt F)) :
    after s9 V (Proc.devRef .tc main_v65) = (scores (V (Proc.devRef .tc main_v52)) (withMem (V (Proc.devRef .tc main_arg4)) (V (Proc.devRef .tc main_v55)))) := by
  simp only [s9]
  after_results_simp <;> rfl

theorem s10_v73 (V : Valuation τ sig (Elt F)) :
    after s10 V (Proc.devRef .tc main_v73) = (masked (V (Proc.devRef .tc main_indices)) (V (Proc.devRef .tc main_v65))) := by
  simp only [s10]
  after_results_simp <;> rfl

theorem s11_v84 (V : Valuation τ sig (Elt F)) :
    after s11 V (Proc.devRef .tc main_v84) = (softmax (V (Proc.devRef .tc main_v73))) := by
  simp only [s11]
  after_results_simp <;> rfl

theorem s12_v86 (V : Valuation τ sig (Elt F)) :
    after s12 V (Proc.devRef .tc main_v86) = (outFlat (V (Proc.devRef .tc main_v84)) (V (Proc.devRef .tc main_v62))) := by
  simp only [s12]
  after_results_simp <;> rfl

theorem s13_v88 (V : Valuation τ sig (Elt F)) :
    after s13 V (Proc.devRef .tc main_v88) = zeroColumn := by
  simp only [s13]
  after_results_simp <;> rfl

theorem s13_v90 (V : Valuation τ sig (Elt F)) :
    after s13 V (Proc.devRef .tc main_v90) = headColumn := by
  simp only [s13]
  after_results_simp <;> rfl

theorem s13_v91 (V : Valuation τ sig (Elt F)) :
    after s13 V (Proc.devRef .tc main_v91) = zeros := by
  simp only [s13]
  after_results_simp <;> rfl

theorem s13_v96 (V : Valuation τ sig (Elt F)) :
    after s13 V (Proc.devRef .tc main_v96) = (batchIndex zeroColumn) := by
  simp only [s13]
  after_results_simp <;> rfl

theorem s14_v113 (V : Valuation τ sig (Elt F)) :
    after s14 V (Proc.devRef .tc main_v113) = (numer (V (Proc.devRef .tc main_v91)) (places (V (Proc.devRef .tc main_v96)) (headIndex (V (Proc.devRef .tc main_v90))) (tokenIndex (V (Proc.devRef .tc main_v49)))) (V (Proc.devRef .tc main_v86))) := by
  simp only [s14]
  after_results_simp
  simp only [Matrix.cons_val]
  after_results_simp <;> rfl

theorem s15_v137 (V : Valuation τ sig (Elt F)) :
    after s15 V (Proc.devRef .tc main_v137) = (denom zeros (places (batchIndex (V (Proc.devRef .tc main_v88))) (headIndex (V (Proc.devRef .tc main_v90))) (tokenIndex (V (Proc.devRef .tc main_v49))))) := by
  simp only [s15]
  after_results_simp
  simp only [Matrix.cons_val]
  after_results_simp <;> rfl

theorem s16_v140 (V : Valuation τ sig (Elt F)) :
    after s16 V (Proc.devRef .tc main_v140) = (meanOf (V (Proc.devRef .tc main_v113)) (V (Proc.devRef .tc main_v137))) := by
  simp only [s16]
  after_results_simp <;> rfl

end Cert.Ref

end
-- ==== Proof.RefRun.lean ====
/-
  The run of the reference: it ends with its two results at the functions of RefFun of its arguments, the arguments unchanged.
-/
module

public import proofs.«01_k».proof.Proof.Gen.ReferenceIdeal
public import proofs.«01_k».proof.Proof.RefSteps

@[expose] public section

set_option maxRecDepth 16384
set_option Elab.async false

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The operations of part 0 of the reference. -/
def ops0 : List (HloOp τ sig (Elt F)) :=
  s1 ++ (s2 ++ (s3 ++ (s4)))

set_option maxRecDepth 200000 in
set_option maxHeartbeats 1000000 in
theorem part0_eq (c : Dev nD) : main_part0 (F := F) c = seq ops0 := rfl

/-- The operations of part 1 of the reference. -/
def ops1 : List (HloOp τ sig (Elt F)) :=
  s5 ++ (s6 ++ (s7 ++ (s8 ++ (s9 ++ (s10 ++ (s11 ++ (s12 ++ (s13))))))))

set_option maxRecDepth 200000 in
set_option maxHeartbeats 1000000 in
theorem part1_eq (c : Dev nD) : main_part1 (F := F) c = seq ops1 := rfl

/-- The operations of part 2 of the reference. -/
def ops2 : List (HloOp τ sig (Elt F)) :=
  s14 ++ (s15 ++ (s16))

set_option maxRecDepth 200000 in
set_option maxHeartbeats 1000000 in
theorem part2_eq (c : Dev nD) : main_part2 (F := F) c = seq ops2 := rfl

/-- The operations of the reference. -/
def ops : List (HloOp τ sig (Elt F)) := ops0 ++ (ops1 ++ (ops2))

set_option maxRecDepth 200000 in
/-- The reference is the straight line of its operations. -/
theorem main_eq (c : Dev nD) : main (F := F) c = seq ops := by
  simp only [ops, seq_append, ← part0_eq c, ← part1_eq c, ← part2_eq c]
  rfl

/-- The contents after the first lists of operations, from the contents `V`. -/
def st1 (V : Valuation τ sig (Elt F)) : Valuation τ sig (Elt F) := after s1 V
def st2 (V : Valuation τ sig (Elt F)) : Valuation τ sig (Elt F) := after s2 (st1 V)
def st3 (V : Valuation τ sig (Elt F)) : Valuation τ sig (Elt F) := after s3 (st2 V)
def st4 (V : Valuation τ sig (Elt F)) : Valuation τ sig (Elt F) := after s4 (st3 V)
def st5 (V : Valuation τ sig (Elt F)) : Valuation τ sig (Elt F) := after s5 (st4 V)
def st6 (V : Valuation τ sig (Elt F)) : Valuation τ sig (Elt F) := after s6 (st5 V)
def st7 (V : Valuation τ sig (Elt F)) : Valuation τ sig (Elt F) := after s7 (st6 V)
def st8 (V : Valuation τ sig (Elt F)) : Valuation τ sig (Elt F) := after s8 (st7 V)
def st9 (V : Valuation τ sig (Elt F)) : Valuation τ sig (Elt F) := after s9 (st8 V)
def st10 (V : Valuation τ sig (Elt F)) : Valuation τ sig (Elt F) := after s10 (st9 V)
def st11 (V : Valuation τ sig (Elt F)) : Valuation τ sig (Elt F) := after s11 (st10 V)
def st12 (V : Valuation τ sig (Elt F)) : Valuation τ sig (Elt F) := after s12 (st11 V)
def st13 (V : Valuation τ sig (Elt F)) : Valuation τ sig (Elt F) := after s13 (st12 V)
def st14 (V : Valuation τ sig (Elt F)) : Valuation τ sig (Elt F) := after s14 (st13 V)
def st15 (V : Valuation τ sig (Elt F)) : Valuation τ sig (Elt F) := after s15 (st14 V)
def st16 (V : Valuation τ sig (Elt F)) : Valuation τ sig (Elt F) := after s16 (st15 V)

theorem st1_arg0 (V : Valuation τ sig (Elt F)) : st1 V (Proc.devRef .tc main_arg0) = (V (Proc.devRef .tc main_arg0)) :=
  (s1_keep _ main_arg0 (by decide))

theorem st1_arg1 (V : Valuation τ sig (Elt F)) : st1 V (Proc.devRef .tc main_arg1) = (V (Proc.devRef .tc main_arg1)) :=
  (s1_keep _ main_arg1 (by decide))

theorem st1_arg2 (V : Valuation τ sig (Elt F)) : st1 V (Proc.devRef .tc main_arg2) = (V (Proc.devRef .tc main_arg2)) :=
  (s1_keep _ main_arg2 (by decide))

theorem st1_arg3 (V : Valuation τ sig (Elt F)) : st1 V (Proc.devRef .tc main_arg3) = (V (Proc.devRef .tc main_arg3)) :=
  (s1_keep _ main_arg3 (by decide))

theorem st1_arg4 (V : Valuation τ sig (Elt F)) : st1 V (Proc.devRef .tc main_arg4) = (V (Proc.devRef .tc main_arg4)) :=
  (s1_keep _ main_arg4 (by decide))

theorem st1_arg5 (V : Valuation τ sig (Elt F)) : st1 V (Proc.devRef .tc main_arg5) = (V (Proc.devRef .tc main_arg5)) :=
  (s1_keep _ main_arg5 (by decide))

theorem st1_v0 (V : Valuation τ sig (Elt F)) : st1 V (Proc.devRef .tc main_v0) = (qHeads (V (Proc.devRef .tc main_arg0))) :=
  by
  unfold st1
  rw [s1_v0] <;> rfl

theorem st1_v1 (V : Valuation τ sig (Elt F)) : st1 V (Proc.devRef .tc main_v1) = (kHeads (V (Proc.devRef .tc main_arg1))) :=
  by
  unfold st1
  rw [s1_v1] <;> rfl

theorem st1_v2 (V : Valuation τ sig (Elt F)) : st1 V (Proc.devRef .tc main_v2) = (vHeads (V (Proc.devRef .tc main_arg2))) :=
  by
  unfold st1
  rw [s1_v2] <;> rfl

theorem st1_v7 (V : Valuation τ sig (Elt F)) : st1 V (Proc.devRef .tc main_v7) = (xn (V (Proc.devRef .tc main_arg0))) :=
  by
  unfold st1
  rw [s1_v7] <;> rfl

theorem st2_arg0 (V : Valuation τ sig (Elt F)) : st2 V (Proc.devRef .tc main_arg0) = (V (Proc.devRef .tc main_arg0)) :=
  (s2_keep _ main_arg0 (by decide)).trans (st1_arg0 V)

theorem st2_arg1 (V : Valuation τ sig (Elt F)) : st2 V (Proc.devRef .tc main_arg1) = (V (Proc.devRef .tc main_arg1)) :=
  (s2_keep _ main_arg1 (by decide)).trans (st1_arg1 V)

theorem st2_arg2 (V : Valuation τ sig (Elt F)) : st2 V (Proc.devRef .tc main_arg2) = (V (Proc.devRef .tc main_arg2)) :=
  (s2_keep _ main_arg2 (by decide)).trans (st1_arg2 V)

theorem st2_arg3 (V : Valuation τ sig (Elt F)) : st2 V (Proc.devRef .tc main_arg3) = (V (Proc.devRef .tc main_arg3)) :=
  (s2_keep _ main_arg3 (by decide)).trans (st1_arg3 V)

theorem st2_arg4 (V : Valuation τ sig (Elt F)) : st2 V (Proc.devRef .tc main_arg4) = (V (Proc.devRef .tc main_arg4)) :=
  (s2_keep _ main_arg4 (by decide)).trans (st1_arg4 V)

theorem st2_arg5 (V : Valuation τ sig (Elt F)) : st2 V (Proc.devRef .tc main_arg5) = (V (Proc.devRef .tc main_arg5)) :=
  (s2_keep _ main_arg5 (by decide)).trans (st1_arg5 V)

theorem st2_v0 (V : Valuation τ sig (Elt F)) : st2 V (Proc.devRef .tc main_v0) = (qHeads (V (Proc.devRef .tc main_arg0))) :=
  (s2_keep _ main_v0 (by decide)).trans (st1_v0 V)

theorem st2_v1 (V : Valuation τ sig (Elt F)) : st2 V (Proc.devRef .tc main_v1) = (kHeads (V (Proc.devRef .tc main_arg1))) :=
  (s2_keep _ main_v1 (by decide)).trans (st1_v1 V)

theorem st2_v2 (V : Valuation τ sig (Elt F)) : st2 V (Proc.devRef .tc main_v2) = (vHeads (V (Proc.devRef .tc main_arg2))) :=
  (s2_keep _ main_v2 (by decide)).trans (st1_v2 V)

theorem st2_v24 (V : Valuation τ sig (Elt F)) : st2 V (Proc.devRef .tc main_v24) = (dist (V (Proc.devRef .tc main_arg0)) (V (Proc.devRef .tc main_arg3))) :=
  by
  unfold st2
  rw [s2_v24, st1_arg3, st1_v7] <;> rfl

theorem st2_v7 (V : Valuation τ sig (Elt F)) : st2 V (Proc.devRef .tc main_v7) = (xn (V (Proc.devRef .tc main_arg0))) :=
  (s2_keep _ main_v7 (by decide)).trans (st1_v7 V)

theorem st3_arg0 (V : Valuation τ sig (Elt F)) : st3 V (Proc.devRef .tc main_arg0) = (V (Proc.devRef .tc main_arg0)) :=
  (s3_keep _ main_arg0 (by decide)).trans (st2_arg0 V)

theorem st3_arg1 (V : Valuation τ sig (Elt F)) : st3 V (Proc.devRef .tc main_arg1) = (V (Proc.devRef .tc main_arg1)) :=
  (s3_keep _ main_arg1 (by decide)).trans (st2_arg1 V)

theorem st3_arg2 (V : Valuation τ sig (Elt F)) : st3 V (Proc.devRef .tc main_arg2) = (V (Proc.devRef .tc main_arg2)) :=
  (s3_keep _ main_arg2 (by decide)).trans (st2_arg2 V)

theorem st3_arg3 (V : Valuation τ sig (Elt F)) : st3 V (Proc.devRef .tc main_arg3) = (V (Proc.devRef .tc main_arg3)) :=
  (s3_keep _ main_arg3 (by decide)).trans (st2_arg3 V)

theorem st3_arg4 (V : Valuation τ sig (Elt F)) : st3 V (Proc.devRef .tc main_arg4) = (V (Proc.devRef .tc main_arg4)) :=
  (s3_keep _ main_arg4 (by decide)).trans (st2_arg4 V)

theorem st3_arg5 (V : Valuation τ sig (Elt F)) : st3 V (Proc.devRef .tc main_arg5) = (V (Proc.devRef .tc main_arg5)) :=
  (s3_keep _ main_arg5 (by decide)).trans (st2_arg5 V)

theorem st3_v0 (V : Valuation τ sig (Elt F)) : st3 V (Proc.devRef .tc main_v0) = (qHeads (V (Proc.devRef .tc main_arg0))) :=
  (s3_keep _ main_v0 (by decide)).trans (st2_v0 V)

theorem st3_v1 (V : Valuation τ sig (Elt F)) : st3 V (Proc.devRef .tc main_v1) = (kHeads (V (Proc.devRef .tc main_arg1))) :=
  (s3_keep _ main_v1 (by decide)).trans (st2_v1 V)

theorem st3_v2 (V : Valuation τ sig (Elt F)) : st3 V (Proc.devRef .tc main_v2) = (vHeads (V (Proc.devRef .tc main_arg2))) :=
  (s3_keep _ main_v2 (by decide)).trans (st2_v2 V)

theorem st3_v24 (V : Valuation τ sig (Elt F)) : st3 V (Proc.devRef .tc main_v24) = (dist (V (Proc.devRef .tc main_arg0)) (V (Proc.devRef .tc main_arg3))) :=
  (s3_keep _ main_v24 (by decide)).trans (st2_v24 V)

theorem st3_v42 (V : Valuation τ sig (Elt F)) : st3 V (Proc.devRef .tc main_v42) = (target (V (Proc.devRef .tc main_arg0)) (V (Proc.devRef .tc main_arg3))) :=
  by
  unfold st3
  rw [s3_v42, st2_arg3, st2_v24] <;> rfl

theorem st3_v7 (V : Valuation τ sig (Elt F)) : st3 V (Proc.devRef .tc main_v7) = (xn (V (Proc.devRef .tc main_arg0))) :=
  (s3_keep _ main_v7 (by decide)).trans (st2_v7 V)

theorem st4_arg0 (V : Valuation τ sig (Elt F)) : st4 V (Proc.devRef .tc main_arg0) = (V (Proc.devRef .tc main_arg0)) :=
  (s4_keep _ main_arg0 (by decide)).trans (st3_arg0 V)

theorem st4_arg1 (V : Valuation τ sig (Elt F)) : st4 V (Proc.devRef .tc main_arg1) = (V (Proc.devRef .tc main_arg1)) :=
  (s4_keep _ main_arg1 (by decide)).trans (st3_arg1 V)

theorem st4_arg2 (V : Valuation τ sig (Elt F)) : st4 V (Proc.devRef .tc main_arg2) = (V (Proc.devRef .tc main_arg2)) :=
  (s4_keep _ main_arg2 (by decide)).trans (st3_arg2 V)

theorem st4_arg3 (V : Valuation τ sig (Elt F)) : st4 V (Proc.devRef .tc main_arg3) = (V (Proc.devRef .tc main_arg3)) :=
  (s4_keep _ main_arg3 (by decide)).trans (st3_arg3 V)

theorem st4_arg4 (V : Valuation τ sig (Elt F)) : st4 V (Proc.devRef .tc main_arg4) = (V (Proc.devRef .tc main_arg4)) :=
  (s4_keep _ main_arg4 (by decide)).trans (st3_arg4 V)

theorem st4_arg5 (V : Valuation τ sig (Elt F)) : st4 V (Proc.devRef .tc main_arg5) = (V (Proc.devRef .tc main_arg5)) :=
  (s4_keep _ main_arg5 (by decide)).trans (st3_arg5 V)

theorem st4_v0 (V : Valuation τ sig (Elt F)) : st4 V (Proc.devRef .tc main_v0) = (qHeads (V (Proc.devRef .tc main_arg0))) :=
  (s4_keep _ main_v0 (by decide)).trans (st3_v0 V)

theorem st4_v1 (V : Valuation τ sig (Elt F)) : st4 V (Proc.devRef .tc main_v1) = (kHeads (V (Proc.devRef .tc main_arg1))) :=
  (s4_keep _ main_v1 (by decide)).trans (st3_v1 V)

theorem st4_v2 (V : Valuation τ sig (Elt F)) : st4 V (Proc.devRef .tc main_v2) = (vHeads (V (Proc.devRef .tc main_arg2))) :=
  (s4_keep _ main_v2 (by decide)).trans (st3_v2 V)

theorem st4_v24 (V : Valuation τ sig (Elt F)) : st4 V (Proc.devRef .tc main_v24) = (dist (V (Proc.devRef .tc main_arg0)) (V (Proc.devRef .tc main_arg3))) :=
  (s4_keep _ main_v24 (by decide)).trans (st3_v24 V)

theorem st4_v47 (V : Valuation τ sig (Elt F)) : st4 V (Proc.devRef .tc main_v47) = (aux (V (Proc.devRef .tc main_arg0)) (V (Proc.devRef .tc main_arg3))) :=
  by
  unfold st4
  rw [s4_v47, st3_v42, st3_v7] <;> rfl

theorem st5_arg0 (V : Valuation τ sig (Elt F)) : st5 V (Proc.devRef .tc main_arg0) = (V (Proc.devRef .tc main_arg0)) :=
  (s5_keep _ main_arg0 (by decide)).trans (st4_arg0 V)

theorem st5_arg1 (V : Valuation τ sig (Elt F)) : st5 V (Proc.devRef .tc main_arg1) = (V (Proc.devRef .tc main_arg1)) :=
  (s5_keep _ main_arg1 (by decide)).trans (st4_arg1 V)

theorem st5_arg2 (V : Valuation τ sig (Elt F)) : st5 V (Proc.devRef .tc main_arg2) = (V (Proc.devRef .tc main_arg2)) :=
  (s5_keep _ main_arg2 (by decide)).trans (st4_arg2 V)

theorem st5_arg3 (V : Valuation τ sig (Elt F)) : st5 V (Proc.devRef .tc main_arg3) = (V (Proc.devRef .tc main_arg3)) :=
  (s5_keep _ main_arg3 (by decide)).trans (st4_arg3 V)

theorem st5_arg4 (V : Valuation τ sig (Elt F)) : st5 V (Proc.devRef .tc main_arg4) = (V (Proc.devRef .tc main_arg4)) :=
  (s5_keep _ main_arg4 (by decide)).trans (st4_arg4 V)

theorem st5_arg5 (V : Valuation τ sig (Elt F)) : st5 V (Proc.devRef .tc main_arg5) = (V (Proc.devRef .tc main_arg5)) :=
  (s5_keep _ main_arg5 (by decide)).trans (st4_arg5 V)

theorem st5_indices (V : Valuation τ sig (Elt F)) : st5 V (Proc.devRef .tc main_indices) = (ord (V (Proc.devRef .tc main_arg0)) (V (Proc.devRef .tc main_arg3))) :=
  by
  unfold st5
  rw [s5_indices, st4_v24] <;> rfl

theorem st5_v0 (V : Valuation τ sig (Elt F)) : st5 V (Proc.devRef .tc main_v0) = (qHeads (V (Proc.devRef .tc main_arg0))) :=
  (s5_keep _ main_v0 (by decide)).trans (st4_v0 V)

theorem st5_v1 (V : Valuation τ sig (Elt F)) : st5 V (Proc.devRef .tc main_v1) = (kHeads (V (Proc.devRef .tc main_arg1))) :=
  (s5_keep _ main_v1 (by decide)).trans (st4_v1 V)

theorem st5_v2 (V : Valuation τ sig (Elt F)) : st5 V (Proc.devRef .tc main_v2) = (vHeads (V (Proc.devRef .tc main_arg2))) :=
  (s5_keep _ main_v2 (by decide)).trans (st4_v2 V)

theorem st5_v47 (V : Valuation τ sig (Elt F)) : st5 V (Proc.devRef .tc main_v47) = (aux (V (Proc.devRef .tc main_arg0)) (V (Proc.devRef .tc main_arg3))) :=
  (s5_keep _ main_v47 (by decide)).trans (st4_v47 V)

theorem st5_v49 (V : Valuation τ sig (Elt F)) : st5 V (Proc.devRef .tc main_v49) = (ordFlat (V (Proc.devRef .tc main_arg0)) (V (Proc.devRef .tc main_arg3))) :=
  by
  unfold st5
  rw [s5_v49, st4_v24] <;> rfl

theorem st5_v50 (V : Valuation τ sig (Elt F)) : st5 V (Proc.devRef .tc main_v50) = (column (ordFlat (V (Proc.devRef .tc main_arg0)) (V (Proc.devRef .tc main_arg3)))) :=
  by
  unfold st5
  rw [s5_v50, st4_v24] <;> rfl

theorem st6_arg0 (V : Valuation τ sig (Elt F)) : st6 V (Proc.devRef .tc main_arg0) = (V (Proc.devRef .tc main_arg0)) :=
  (s6_keep _ main_arg0 (by decide)).trans (st5_arg0 V)

theorem st6_arg1 (V : Valuation τ sig (Elt F)) : st6 V (Proc.devRef .tc main_arg1) = (V (Proc.devRef .tc main_arg1)) :=
  (s6_keep _ main_arg1 (by decide)).trans (st5_arg1 V)

theorem st6_arg2 (V : Valuation τ sig (Elt F)) : st6 V (Proc.devRef .tc main_arg2) = (V (Proc.devRef .tc main_arg2)) :=
  (s6_keep _ main_arg2 (by decide)).trans (st5_arg2 V)

theorem st6_arg3 (V : Valuation τ sig (Elt F)) : st6 V (Proc.devRef .tc main_arg3) = (V (Proc.devRef .tc main_arg3)) :=
  (s6_keep _ main_arg3 (by decide)).trans (st5_arg3 V)

theorem st6_arg4 (V : Valuation τ sig (Elt F)) : st6 V (Proc.devRef .tc main_arg4) = (V (Proc.devRef .tc main_arg4)) :=
  (s6_keep _ main_arg4 (by decide)).trans (st5_arg4 V)

theorem st6_arg5 (V : Valuation τ sig (Elt F)) : st6 V (Proc.devRef .tc main_arg5) = (V (Proc.devRef .tc main_arg5)) :=
  (s6_keep _ main_arg5 (by decide)).trans (st5_arg5 V)

theorem st6_indices (V : Valuation τ sig (Elt F)) : st6 V (Proc.devRef .tc main_indices) = (ord (V (Proc.devRef .tc main_arg0)) (V (Proc.devRef .tc main_arg3))) :=
  (s6_keep _ main_indices (by decide)).trans (st5_indices V)

theorem st6_v1 (V : Valuation τ sig (Elt F)) : st6 V (Proc.devRef .tc main_v1) = (kHeads (V (Proc.devRef .tc main_arg1))) :=
  (s6_keep _ main_v1 (by decide)).trans (st5_v1 V)

theorem st6_v2 (V : Valuation τ sig (Elt F)) : st6 V (Proc.devRef .tc main_v2) = (vHeads (V (Proc.devRef .tc main_arg2))) :=
  (s6_keep _ main_v2 (by decide)).trans (st5_v2 V)

theorem st6_v47 (V : Valuation τ sig (Elt F)) : st6 V (Proc.devRef .tc main_v47) = (aux (V (Proc.devRef .tc main_arg0)) (V (Proc.devRef .tc main_arg3))) :=
  (s6_keep _ main_v47 (by decide)).trans (st5_v47 V)

theorem st6_v49 (V : Valuation τ sig (Elt F)) : st6 V (Proc.devRef .tc main_v49) = (ordFlat (V (Proc.devRef .tc main_arg0)) (V (Proc.devRef .tc main_arg3))) :=
  (s6_keep _ main_v49 (by decide)).trans (st5_v49 V)

theorem st6_v52 (V : Valuation τ sig (Elt F)) : st6 V (Proc.devRef .tc main_v52) = (qPerm (V (Proc.devRef .tc main_arg0)) (V (Proc.devRef .tc main_arg3))) :=
  by
  unfold st6
  rw [s6_v52, st5_v0, st5_v50] <;> rfl

theorem st6_v53 (V : Valuation τ sig (Elt F)) : st6 V (Proc.devRef .tc main_v53) = (column (ordFlat (V (Proc.devRef .tc main_arg0)) (V (Proc.devRef .tc main_arg3)))) :=
  by
  unfold st6
  rw [s6_v53, st5_v49] <;> rfl

theorem st7_arg0 (V : Valuation τ sig (Elt F)) : st7 V (Proc.devRef .tc main_arg0) = (V (Proc.devRef .tc main_arg0)) :=
  (s7_keep _ main_arg0 (by decide)).trans (st6_arg0 V)

theorem st7_arg1 (V : Valuation τ sig (Elt F)) : st7 V (Proc.devRef .tc main_arg1) = (V (Proc.devRef .tc main_arg1)) :=
  (s7_keep _ main_arg1 (by decide)).trans (st6_arg1 V)

theorem st7_arg2 (V : Valuation τ sig (Elt F)) : st7 V (Proc.devRef .tc main_arg2) = (V (Proc.devRef .tc main_arg2)) :=
  (s7_keep _ main_arg2 (by decide)).trans (st6_arg2 V)

theorem st7_arg3 (V : Valuation τ sig (Elt F)) : st7 V (Proc.devRef .tc main_arg3) = (V (Proc.devRef .tc main_arg3)) :=
  (s7_keep _ main_arg3 (by decide)).trans (st6_arg3 V)

theorem st7_arg4 (V : Valuation τ sig (Elt F)) : st7 V (Proc.devRef .tc main_arg4) = (V (Proc.devRef .tc main_arg4)) :=
  (s7_keep _ main_arg4 (by decide)).trans (st6_arg4 V)

theorem st7_arg5 (V : Valuation τ sig (Elt F)) : st7 V (Proc.devRef .tc main_arg5) = (V (Proc.devRef .tc main_arg5)) :=
  (s7_keep _ main_arg5 (by decide)).trans (st6_arg5 V)

theorem st7_indices (V : Valuation τ sig (Elt F)) : st7 V (Proc.devRef .tc main_indices) = (ord (V (Proc.devRef .tc main_arg0)) (V (Proc.devRef .tc main_arg3))) :=
  (s7_keep _ main_indices (by decide)).trans (st6_indices V)

theorem st7_v2 (V : Valuation τ sig (Elt F)) : st7 V (Proc.devRef .tc main_v2) = (vHeads (V (Proc.devRef .tc main_arg2))) :=
  (s7_keep _ main_v2 (by decide)).trans (st6_v2 V)

theorem st7_v47 (V : Valuation τ sig (Elt F)) : st7 V (Proc.devRef .tc main_v47) = (aux (V (Proc.devRef .tc main_arg0)) (V (Proc.devRef .tc main_arg3))) :=
  (s7_keep _ main_v47 (by decide)).trans (st6_v47 V)

theorem st7_v49 (V : Valuation τ sig (Elt F)) : st7 V (Proc.devRef .tc main_v49) = (ordFlat (V (Proc.devRef .tc main_arg0)) (V (Proc.devRef .tc main_arg3))) :=
  (s7_keep _ main_v49 (by decide)).trans (st6_v49 V)

theorem st7_v52 (V : Valuation τ sig (Elt F)) : st7 V (Proc.devRef .tc main_v52) = (qPerm (V (Proc.devRef .tc main_arg0)) (V (Proc.devRef .tc main_arg3))) :=
  (s7_keep _ main_v52 (by decide)).trans (st6_v52 V)

theorem st7_v55 (V : Valuation τ sig (Elt F)) : st7 V (Proc.devRef .tc main_v55) = (perCluster (taken (kHeads (V (Proc.devRef .tc main_arg1))) (column (ordFlat (V (Proc.devRef .tc main_arg0)) (V (Proc.devRef .tc main_arg3)))))) :=
  by
  unfold st7
  rw [s7_v55, st6_v1, st6_v53] <;> rfl

theorem st7_v56 (V : Valuation τ sig (Elt F)) : st7 V (Proc.devRef .tc main_v56) = (column (ordFlat (V (Proc.devRef .tc main_arg0)) (V (Proc.devRef .tc main_arg3)))) :=
  by
  unfold st7
  rw [s7_v56, st6_v49] <;> rfl

theorem st8_arg0 (V : Valuation τ sig (Elt F)) : st8 V (Proc.devRef .tc main_arg0) = (V (Proc.devRef .tc main_arg0)) :=
  (s8_keep _ main_arg0 (by decide)).trans (st7_arg0 V)

theorem st8_arg1 (V : Valuation τ sig (Elt F)) : st8 V (Proc.devRef .tc main_arg1) = (V (Proc.devRef .tc main_arg1)) :=
  (s8_keep _ main_arg1 (by decide)).trans (st7_arg1 V)

theorem st8_arg2 (V : Valuation τ sig (Elt F)) : st8 V (Proc.devRef .tc main_arg2) = (V (Proc.devRef .tc main_arg2)) :=
  (s8_keep _ main_arg2 (by decide)).trans (st7_arg2 V)

theorem st8_arg3 (V : Valuation τ sig (Elt F)) : st8 V (Proc.devRef .tc main_arg3) = (V (Proc.devRef .tc main_arg3)) :=
  (s8_keep _ main_arg3 (by decide)).trans (st7_arg3 V)

theorem st8_arg4 (V : Valuation τ sig (Elt F)) : st8 V (Proc.devRef .tc main_arg4) = (V (Proc.devRef .tc main_arg4)) :=
  (s8_keep _ main_arg4 (by decide)).trans (st7_arg4 V)

theorem st8_arg5 (V : Valuation τ sig (Elt F)) : st8 V (Proc.devRef .tc main_arg5) = (V (Proc.devRef .tc main_arg5)) :=
  (s8_keep _ main_arg5 (by decide)).trans (st7_arg5 V)

theorem st8_indices (V : Valuation τ sig (Elt F)) : st8 V (Proc.devRef .tc main_indices) = (ord (V (Proc.devRef .tc main_arg0)) (V (Proc.devRef .tc main_arg3))) :=
  (s8_keep _ main_indices (by decide)).trans (st7_indices V)

theorem st8_v47 (V : Valuation τ sig (Elt F)) : st8 V (Proc.devRef .tc main_v47) = (aux (V (Proc.devRef .tc main_arg0)) (V (Proc.devRef .tc main_arg3))) :=
  (s8_keep _ main_v47 (by decide)).trans (st7_v47 V)

theorem st8_v49 (V : Valuation τ sig (Elt F)) : st8 V (Proc.devRef .tc main_v49) = (ordFlat (V (Proc.devRef .tc main_arg0)) (V (Proc.devRef .tc main_arg3))) :=
  (s8_keep _ main_v49 (by decide)).trans (st7_v49 V)

theorem st8_v52 (V : Valuation τ sig (Elt F)) : st8 V (Proc.devRef .tc main_v52) = (qPerm (V (Proc.devRef .tc main_arg0)) (V (Proc.devRef .tc main_arg3))) :=
  (s8_keep _ main_v52 (by decide)).trans (st7_v52 V)

theorem st8_v55 (V : Valuation τ sig (Elt F)) : st8 V (Proc.devRef .tc main_v55) = (perCluster (taken (kHeads (V (Proc.devRef .tc main_arg1))) (column (ordFlat (V (Proc.devRef .tc main_arg0)) (V (Proc.devRef .tc main_arg3)))))) :=
  (s8_keep _ main_v55 (by decide)).trans (st7_v55 V)

theorem st8_v58 (V : Valuation τ sig (Elt F)) : st8 V (Proc.devRef .tc main_v58) = (perCluster (taken (vHeads (V (Proc.devRef .tc main_arg2))) (column (ordFlat (V (Proc.devRef .tc main_arg0)) (V (Proc.devRef .tc main_arg3)))))) :=
  by
  unfold st8
  rw [s8_v58, st7_v2, st7_v56] <;> rfl

theorem st9_arg0 (V : Valuation τ sig (Elt F)) : st9 V (Proc.devRef .tc main_arg0) = (V (Proc.devRef .tc main_arg0)) :=
  (s9_keep _ main_arg0 (by decide)).trans (st8_arg0 V)

theorem st9_arg1 (V : Valuation τ sig (Elt F)) : st9 V (Proc.devRef .tc main_arg1) = (V (Proc.devRef .tc main_arg1)) :=
  (s9_keep _ main_arg1 (by decide)).trans (st8_arg1 V)

theorem st9_arg2 (V : Valuation τ sig (Elt F)) : st9 V (Proc.devRef .tc main_arg2) = (V (Proc.devRef .tc main_arg2)) :=
  (s9_keep _ main_arg2 (by decide)).trans (st8_arg2 V)

theorem st9_arg3 (V : Valuation τ sig (Elt F)) : st9 V (Proc.devRef .tc main_arg3) = (V (Proc.devRef .tc main_arg3)) :=
  (s9_keep _ main_arg3 (by decide)).trans (st8_arg3 V)

theorem st9_arg4 (V : Valuation τ sig (Elt F)) : st9 V (Proc.devRef .tc main_arg4) = (V (Proc.devRef .tc main_arg4)) :=
  (s9_keep _ main_arg4 (by decide)).trans (st8_arg4 V)

theorem st9_arg5 (V : Valuation τ sig (Elt F)) : st9 V (Proc.devRef .tc main_arg5) = (V (Proc.devRef .tc main_arg5)) :=
  (s9_keep _ main_arg5 (by decide)).trans (st8_arg5 V)

theorem st9_indices (V : Valuation τ sig (Elt F)) : st9 V (Proc.devRef .tc main_indices) = (ord (V (Proc.devRef .tc main_arg0)) (V (Proc.devRef .tc main_arg3))) :=
  (s9_keep _ main_indices (by decide)).trans (st8_indices V)

theorem st9_v47 (V : Valuation τ sig (Elt F)) : st9 V (Proc.devRef .tc main_v47) = (aux (V (Proc.devRef .tc main_arg0)) (V (Proc.devRef .tc main_arg3))) :=
  (s9_keep _ main_v47 (by decide)).trans (st8_v47 V)

theorem st9_v49 (V : Valuation τ sig (Elt F)) : st9 V (Proc.devRef .tc main_v49) = (ordFlat (V (Proc.devRef .tc main_arg0)) (V (Proc.devRef .tc main_arg3))) :=
  (s9_keep _ main_v49 (by decide)).trans (st8_v49 V)

theorem st9_v62 (V : Valuation τ sig (Elt F)) : st9 V (Proc.devRef .tc main_v62) = (vMem (V (Proc.devRef .tc main_arg0)) (V (Proc.devRef .tc main_arg2)) (V (Proc.devRef .tc main_arg3)) (V (Proc.devRef .tc main_arg5))) :=
  by
  unfold st9
  rw [s9_v62, st8_arg5, st8_v58] <;> rfl

theorem st9_v65 (V : Valuation τ sig (Elt F)) : st9 V (Proc.devRef .tc main_v65) = (score (V (Proc.devRef .tc main_arg0)) (V (Proc.devRef .tc main_arg1)) (V (Proc.devRef .tc main_arg3)) (V (Proc.devRef .tc main_arg4))) :=
  by
  unfold st9
  rw [s9_v65, st8_arg4, st8_v52, st8_v55] <;> rfl

theorem st10_arg0 (V : Valuation τ sig (Elt F)) : st10 V (Proc.devRef .tc main_arg0) = (V (Proc.devRef .tc main_arg0)) :=
  (s10_keep _ main_arg0 (by decide)).trans (st9_arg0 V)

theorem st10_arg1 (V : Valuation τ sig (Elt F)) : st10 V (Proc.devRef .tc main_arg1) = (V (Proc.devRef .tc main_arg1)) :=
  (s10_keep _ main_arg1 (by decide)).trans (st9_arg1 V)

theorem st10_arg2 (V : Valuation τ sig (Elt F)) : st10 V (Proc.devRef .tc main_arg2) = (V (Proc.devRef .tc main_arg2)) :=
  (s10_keep _ main_arg2 (by decide)).trans (st9_arg2 V)

theorem st10_arg3 (V : Valuation τ sig (Elt F)) : st10 V (Proc.devRef .tc main_arg3) = (V (Proc.devRef .tc main_arg3)) :=
  (s10_keep _ main_arg3 (by decide)).trans (st9_arg3 V)

theorem st10_arg4 (V : Valuation τ sig (Elt F)) : st10 V (Proc.devRef .tc main_arg4) = (V (Proc.devRef .tc main_arg4)) :=
  (s10_keep _ main_arg4 (by decide)).trans (st9_arg4 V)

theorem st10_arg5 (V : Valuation τ sig (Elt F)) : st10 V (Proc.devRef .tc main_arg5) = (V (Proc.devRef .tc main_arg5)) :=
  (s10_keep _ main_arg5 (by decide)).trans (st9_arg5 V)

theorem st10_v47 (V : Valuation τ sig (Elt F)) : st10 V (Proc.devRef .tc main_v47) = (aux (V (Proc.devRef .tc main_arg0)) (V (Proc.devRef .tc main_arg3))) :=
  (s10_keep _ main_v47 (by decide)).trans (st9_v47 V)

theorem st10_v49 (V : Valuation τ sig (Elt F)) : st10 V (Proc.devRef .tc main_v49) = (ordFlat (V (Proc.devRef .tc main_arg0)) (V (Proc.devRef .tc main_arg3))) :=
  (s10_keep _ main_v49 (by decide)).trans (st9_v49 V)

theorem st10_v62 (V : Valuation τ sig (Elt F)) : st10 V (Proc.devRef .tc main_v62) = (vMem (V (Proc.devRef .tc main_arg0)) (V (Proc.devRef .tc main_arg2)) (V (Proc.devRef .tc main_arg3)) (V (Proc.devRef .tc main_arg5))) :=
  (s10_keep _ main_v62 (by decide)).trans (st9_v62 V)

theorem st10_v73 (V : Valuation τ sig (Elt F)) : st10 V (Proc.devRef .tc main_v73) = (scoreMasked (V (Proc.devRef .tc main_arg0)) (V (Proc.devRef .tc main_arg1)) (V (Proc.devRef .tc main_arg3)) (V (Proc.devRef .tc main_arg4))) :=
  by
  unfold st10
  rw [s10_v73, st9_indices, st9_v65] <;> rfl

theorem st11_arg0 (V : Valuation τ sig (Elt F)) : st11 V (Proc.devRef .tc main_arg0) = (V (Proc.devRef .tc main_arg0)) :=
  (s11_keep _ main_arg0 (by decide)).trans (st10_arg0 V)

theorem st11_arg1 (V : Valuation τ sig (Elt F)) : st11 V (Proc.devRef .tc main_arg1) = (V (Proc.devRef .tc main_arg1)) :=
  (s11_keep _ main_arg1 (by decide)).trans (st10_arg1 V)

theorem st11_arg2 (V : Valuation τ sig (Elt F)) : st11 V (Proc.devRef .tc main_arg2) = (V (Proc.devRef .tc main_arg2)) :=
  (s11_keep _ main_arg2 (by decide)).trans (st10_arg2 V)

theorem st11_arg3 (V : Valuation τ sig (Elt F)) : st11 V (Proc.devRef .tc main_arg3) = (V (Proc.devRef .tc main_arg3)) :=
  (s11_keep _ main_arg3 (by decide)).trans (st10_arg3 V)

theorem st11_arg4 (V : Valuation τ sig (Elt F)) : st11 V (Proc.devRef .tc main_arg4) = (V (Proc.devRef .tc main_arg4)) :=
  (s11_keep _ main_arg4 (by decide)).trans (st10_arg4 V)

theorem st11_arg5 (V : Valuation τ sig (Elt F)) : st11 V (Proc.devRef .tc main_arg5) = (V (Proc.devRef .tc main_arg5)) :=
  (s11_keep _ main_arg5 (by decide)).trans (st10_arg5 V)

theorem st11_v47 (V : Valuation τ sig (Elt F)) : st11 V (Proc.devRef .tc main_v47) = (aux (V (Proc.devRef .tc main_arg0)) (V (Proc.devRef .tc main_arg3))) :=
  (s11_keep _ main_v47 (by decide)).trans (st10_v47 V)

theorem st11_v49 (V : Valuation τ sig (Elt F)) : st11 V (Proc.devRef .tc main_v49) = (ordFlat (V (Proc.devRef .tc main_arg0)) (V (Proc.devRef .tc main_arg3))) :=
  (s11_keep _ main_v49 (by decide)).trans (st10_v49 V)

theorem st11_v62 (V : Valuation τ sig (Elt F)) : st11 V (Proc.devRef .tc main_v62) = (vMem (V (Proc.devRef .tc main_arg0)) (V (Proc.devRef .tc main_arg2)) (V (Proc.devRef .tc main_arg3)) (V (Proc.devRef .tc main_arg5))) :=
  (s11_keep _ main_v62 (by decide)).trans (st10_v62 V)

theorem st11_v84 (V : Valuation τ sig (Elt F)) : st11 V (Proc.devRef .tc main_v84) = (weights (V (Proc.devRef .tc main_arg0)) (V (Proc.devRef .tc main_arg1)) (V (Proc.devRef .tc main_arg3)) (V (Proc.devRef .tc main_arg4))) :=
  by
  unfold st11
  rw [s11_v84, st10_v73] <;> rfl

theorem st12_arg0 (V : Valuation τ sig (Elt F)) : st12 V (Proc.devRef .tc main_arg0) = (V (Proc.devRef .tc main_arg0)) :=
  (s12_keep _ main_arg0 (by decide)).trans (st11_arg0 V)

theorem st12_arg1 (V : Valuation τ sig (Elt F)) : st12 V (Proc.devRef .tc main_arg1) = (V (Proc.devRef .tc main_arg1)) :=
  (s12_keep _ main_arg1 (by decide)).trans (st11_arg1 V)

theorem st12_arg2 (V : Valuation τ sig (Elt F)) : st12 V (Proc.devRef .tc main_arg2) = (V (Proc.devRef .tc main_arg2)) :=
  (s12_keep _ main_arg2 (by decide)).trans (st11_arg2 V)

theorem st12_arg3 (V : Valuation τ sig (Elt F)) : st12 V (Proc.devRef .tc main_arg3) = (V (Proc.devRef .tc main_arg3)) :=
  (s12_keep _ main_arg3 (by decide)).trans (st11_arg3 V)

theorem st12_arg4 (V : Valuation τ sig (Elt F)) : st12 V (Proc.devRef .tc main_arg4) = (V (Proc.devRef .tc main_arg4)) :=
  (s12_keep _ main_arg4 (by decide)).trans (st11_arg4 V)

theorem st12_arg5 (V : Valuation τ sig (Elt F)) : st12 V (Proc.devRef .tc main_arg5) = (V (Proc.devRef .tc main_arg5)) :=
  (s12_keep _ main_arg5 (by decide)).trans (st11_arg5 V)

theorem st12_v47 (V : Valuation τ sig (Elt F)) : st12 V (Proc.devRef .tc main_v47) = (aux (V (Proc.devRef .tc main_arg0)) (V (Proc.devRef .tc main_arg3))) :=
  (s12_keep _ main_v47 (by decide)).trans (st11_v47 V)

theorem st12_v49 (V : Valuation τ sig (Elt F)) : st12 V (Proc.devRef .tc main_v49) = (ordFlat (V (Proc.devRef .tc main_arg0)) (V (Proc.devRef .tc main_arg3))) :=
  (s12_keep _ main_v49 (by decide)).trans (st11_v49 V)

theorem st12_v86 (V : Valuation τ sig (Elt F)) : st12 V (Proc.devRef .tc main_v86) = (attended (V (Proc.devRef .tc main_arg0)) (V (Proc.devRef .tc main_arg1)) (V (Proc.devRef .tc main_arg2)) (V (Proc.devRef .tc main_arg3)) (V (Proc.devRef .tc main_arg4)) (V (Proc.devRef .tc main_arg5))) :=
  by
  unfold st12
  rw [s12_v86, st11_v62, st11_v84] <;> rfl

theorem st13_arg0 (V : Valuation τ sig (Elt F)) : st13 V (Proc.devRef .tc main_arg0) = (V (Proc.devRef .tc main_arg0)) :=
  (s13_keep _ main_arg0 (by decide)).trans (st12_arg0 V)

theorem st13_arg1 (V : Valuation τ sig (Elt F)) : st13 V (Proc.devRef .tc main_arg1) = (V (Proc.devRef .tc main_arg1)) :=
  (s13_keep _ main_arg1 (by decide)).trans (st12_arg1 V)

theorem st13_arg2 (V : Valuation τ sig (Elt F)) : st13 V (Proc.devRef .tc main_arg2) = (V (Proc.devRef .tc main_arg2)) :=
  (s13_keep _ main_arg2 (by decide)).trans (st12_arg2 V)

theorem st13_arg3 (V : Valuation τ sig (Elt F)) : st13 V (Proc.devRef .tc main_arg3) = (V (Proc.devRef .tc main_arg3)) :=
  (s13_keep _ main_arg3 (by decide)).trans (st12_arg3 V)

theorem st13_arg4 (V : Valuation τ sig (Elt F)) : st13 V (Proc.devRef .tc main_arg4) = (V (Proc.devRef .tc main_arg4)) :=
  (s13_keep _ main_arg4 (by decide)).trans (st12_arg4 V)

theorem st13_arg5 (V : Valuation τ sig (Elt F)) : st13 V (Proc.devRef .tc main_arg5) = (V (Proc.devRef .tc main_arg5)) :=
  (s13_keep _ main_arg5 (by decide)).trans (st12_arg5 V)

theorem st13_v47 (V : Valuation τ sig (Elt F)) : st13 V (Proc.devRef .tc main_v47) = (aux (V (Proc.devRef .tc main_arg0)) (V (Proc.devRef .tc main_arg3))) :=
  (s13_keep _ main_v47 (by decide)).trans (st12_v47 V)

theorem st13_v49 (V : Valuation τ sig (Elt F)) : st13 V (Proc.devRef .tc main_v49) = (ordFlat (V (Proc.devRef .tc main_arg0)) (V (Proc.devRef .tc main_arg3))) :=
  (s13_keep _ main_v49 (by decide)).trans (st12_v49 V)

theorem st13_v86 (V : Valuation τ sig (Elt F)) : st13 V (Proc.devRef .tc main_v86) = (attended (V (Proc.devRef .tc main_arg0)) (V (Proc.devRef .tc main_arg1)) (V (Proc.devRef .tc main_arg2)) (V (Proc.devRef .tc main_arg3)) (V (Proc.devRef .tc main_arg4)) (V (Proc.devRef .tc main_arg5))) :=
  (s13_keep _ main_v86 (by decide)).trans (st12_v86 V)

theorem st13_v88 (V : Valuation τ sig (Elt F)) : st13 V (Proc.devRef .tc main_v88) = zeroColumn :=
  by
  unfold st13
  rw [s13_v88] <;> rfl

theorem st13_v90 (V : Valuation τ sig (Elt F)) : st13 V (Proc.devRef .tc main_v90) = headColumn :=
  by
  unfold st13
  rw [s13_v90] <;> rfl

theorem st13_v91 (V : Valuation τ sig (Elt F)) : st13 V (Proc.devRef .tc main_v91) = zeros :=
  by
  unfold st13
  rw [s13_v91] <;> rfl

theorem st13_v96 (V : Valuation τ sig (Elt F)) : st13 V (Proc.devRef .tc main_v96) = (batchIndex zeroColumn) :=
  by
  unfold st13
  rw [s13_v96] <;> rfl

theorem st14_arg0 (V : Valuation τ sig (Elt F)) : st14 V (Proc.devRef .tc main_arg0) = (V (Proc.devRef .tc main_arg0)) :=
  (s14_keep _ main_arg0 (by decide)).trans (st13_arg0 V)

theorem st14_arg1 (V : Valuation τ sig (Elt F)) : st14 V (Proc.devRef .tc main_arg1) = (V (Proc.devRef .tc main_arg1)) :=
  (s14_keep _ main_arg1 (by decide)).trans (st13_arg1 V)

theorem st14_arg2 (V : Valuation τ sig (Elt F)) : st14 V (Proc.devRef .tc main_arg2) = (V (Proc.devRef .tc main_arg2)) :=
  (s14_keep _ main_arg2 (by decide)).trans (st13_arg2 V)

theorem st14_arg3 (V : Valuation τ sig (Elt F)) : st14 V (Proc.devRef .tc main_arg3) = (V (Proc.devRef .tc main_arg3)) :=
  (s14_keep _ main_arg3 (by decide)).trans (st13_arg3 V)

theorem st14_arg4 (V : Valuation τ sig (Elt F)) : st14 V (Proc.devRef .tc main_arg4) = (V (Proc.devRef .tc main_arg4)) :=
  (s14_keep _ main_arg4 (by decide)).trans (st13_arg4 V)

theorem st14_arg5 (V : Valuation τ sig (Elt F)) : st14 V (Proc.devRef .tc main_arg5) = (V (Proc.devRef .tc main_arg5)) :=
  (s14_keep _ main_arg5 (by decide)).trans (st13_arg5 V)

theorem st14_v113 (V : Valuation τ sig (Elt F)) : st14 V (Proc.devRef .tc main_v113) = (total (V (Proc.devRef .tc main_arg0)) (V (Proc.devRef .tc main_arg1)) (V (Proc.devRef .tc main_arg2)) (V (Proc.devRef .tc main_arg3)) (V (Proc.devRef .tc main_arg4)) (V (Proc.devRef .tc main_arg5))) :=
  by
  unfold st14
  rw [s14_v113, st13_v49, st13_v86, st13_v90, st13_v91, st13_v96] <;> rfl

theorem st14_v47 (V : Valuation τ sig (Elt F)) : st14 V (Proc.devRef .tc main_v47) = (aux (V (Proc.devRef .tc main_arg0)) (V (Proc.devRef .tc main_arg3))) :=
  (s14_keep _ main_v47 (by decide)).trans (st13_v47 V)

theorem st14_v49 (V : Valuation τ sig (Elt F)) : st14 V (Proc.devRef .tc main_v49) = (ordFlat (V (Proc.devRef .tc main_arg0)) (V (Proc.devRef .tc main_arg3))) :=
  (s14_keep _ main_v49 (by decide)).trans (st13_v49 V)

theorem st14_v88 (V : Valuation τ sig (Elt F)) : st14 V (Proc.devRef .tc main_v88) = zeroColumn :=
  (s14_keep _ main_v88 (by decide)).trans (st13_v88 V)

theorem st14_v90 (V : Valuation τ sig (Elt F)) : st14 V (Proc.devRef .tc main_v90) = headColumn :=
  (s14_keep _ main_v90 (by decide)).trans (st13_v90 V)

theorem st15_arg0 (V : Valuation τ sig (Elt F)) : st15 V (Proc.devRef .tc main_arg0) = (V (Proc.devRef .tc main_arg0)) :=
  (s15_keep _ main_arg0 (by decide)).trans (st14_arg0 V)

theorem st15_arg1 (V : Valuation τ sig (Elt F)) : st15 V (Proc.devRef .tc main_arg1) = (V (Proc.devRef .tc main_arg1)) :=
  (s15_keep _ main_arg1 (by decide)).trans (st14_arg1 V)

theorem st15_arg2 (V : Valuation τ sig (Elt F)) : st15 V (Proc.devRef .tc main_arg2) = (V (Proc.devRef .tc main_arg2)) :=
  (s15_keep _ main_arg2 (by decide)).trans (st14_arg2 V)

theorem st15_arg3 (V : Valuation τ sig (Elt F)) : st15 V (Proc.devRef .tc main_arg3) = (V (Proc.devRef .tc main_arg3)) :=
  (s15_keep _ main_arg3 (by decide)).trans (st14_arg3 V)

theorem st15_arg4 (V : Valuation τ sig (Elt F)) : st15 V (Proc.devRef .tc main_arg4) = (V (Proc.devRef .tc main_arg4)) :=
  (s15_keep _ main_arg4 (by decide)).trans (st14_arg4 V)

theorem st15_arg5 (V : Valuation τ sig (Elt F)) : st15 V (Proc.devRef .tc main_arg5) = (V (Proc.devRef .tc main_arg5)) :=
  (s15_keep _ main_arg5 (by decide)).trans (st14_arg5 V)

theorem st15_v113 (V : Valuation τ sig (Elt F)) : st15 V (Proc.devRef .tc main_v113) = (total (V (Proc.devRef .tc main_arg0)) (V (Proc.devRef .tc main_arg1)) (V (Proc.devRef .tc main_arg2)) (V (Proc.devRef .tc main_arg3)) (V (Proc.devRef .tc main_arg4)) (V (Proc.devRef .tc main_arg5))) :=
  (s15_keep _ main_v113 (by decide)).trans (st14_v113 V)

theorem st15_v137 (V : Valuation τ sig (Elt F)) : st15 V (Proc.devRef .tc main_v137) = (counts (V (Proc.devRef .tc main_arg0)) (V (Proc.devRef .tc main_arg3))) :=
  by
  unfold st15
  rw [s15_v137, st14_v49, st14_v88, st14_v90] <;> rfl

theorem st15_v47 (V : Valuation τ sig (Elt F)) : st15 V (Proc.devRef .tc main_v47) = (aux (V (Proc.devRef .tc main_arg0)) (V (Proc.devRef .tc main_arg3))) :=
  (s15_keep _ main_v47 (by decide)).trans (st14_v47 V)

theorem st16_arg0 (V : Valuation τ sig (Elt F)) : st16 V (Proc.devRef .tc main_arg0) = (V (Proc.devRef .tc main_arg0)) :=
  (s16_keep _ main_arg0 (by decide)).trans (st15_arg0 V)

theorem st16_arg1 (V : Valuation τ sig (Elt F)) : st16 V (Proc.devRef .tc main_arg1) = (V (Proc.devRef .tc main_arg1)) :=
  (s16_keep _ main_arg1 (by decide)).trans (st15_arg1 V)

theorem st16_arg2 (V : Valuation τ sig (Elt F)) : st16 V (Proc.devRef .tc main_arg2) = (V (Proc.devRef .tc main_arg2)) :=
  (s16_keep _ main_arg2 (by decide)).trans (st15_arg2 V)

theorem st16_arg3 (V : Valuation τ sig (Elt F)) : st16 V (Proc.devRef .tc main_arg3) = (V (Proc.devRef .tc main_arg3)) :=
  (s16_keep _ main_arg3 (by decide)).trans (st15_arg3 V)

theorem st16_arg4 (V : Valuation τ sig (Elt F)) : st16 V (Proc.devRef .tc main_arg4) = (V (Proc.devRef .tc main_arg4)) :=
  (s16_keep _ main_arg4 (by decide)).trans (st15_arg4 V)

theorem st16_arg5 (V : Valuation τ sig (Elt F)) : st16 V (Proc.devRef .tc main_arg5) = (V (Proc.devRef .tc main_arg5)) :=
  (s16_keep _ main_arg5 (by decide)).trans (st15_arg5 V)

theorem st16_v140 (V : Valuation τ sig (Elt F)) : st16 V (Proc.devRef .tc main_v140) = (result (V (Proc.devRef .tc main_arg0)) (V (Proc.devRef .tc main_arg1)) (V (Proc.devRef .tc main_arg2)) (V (Proc.devRef .tc main_arg3)) (V (Proc.devRef .tc main_arg4)) (V (Proc.devRef .tc main_arg5))) :=
  by
  unfold st16
  rw [s16_v140, st15_v113, st15_v137] <;> rfl

theorem st16_v47 (V : Valuation τ sig (Elt F)) : st16 V (Proc.devRef .tc main_v47) = (aux (V (Proc.devRef .tc main_arg0)) (V (Proc.devRef .tc main_arg3))) :=
  (s16_keep _ main_v47 (by decide)).trans (st15_v47 V)

/-- The contents after all operations. -/
theorem after_ops (V : Valuation τ sig (Elt F)) : after ops V = st16 V := by
  simp only [ops, ops0, ops1, ops2, after_append]
  rfl

theorem ops_sub : ∀ op ∈ (ops : List (HloOp τ sig (Elt F))), op.bufs ⊆ tcRefs τ sig := by
  intro op h
  simp only [ops, ops0, ops1, ops2, List.mem_append] at h
  rcases h with (h | h | h | h) | (h | h | h | h | h | h | h | h | h) | (h | h | h)
  · exact List.forall_iff_forall_mem.mp s1_sub op h
  · exact List.forall_iff_forall_mem.mp s2_sub op h
  · exact List.forall_iff_forall_mem.mp s3_sub op h
  · exact List.forall_iff_forall_mem.mp s4_sub op h
  · exact List.forall_iff_forall_mem.mp s5_sub op h
  · exact List.forall_iff_forall_mem.mp s6_sub op h
  · exact List.forall_iff_forall_mem.mp s7_sub op h
  · exact List.forall_iff_forall_mem.mp s8_sub op h
  · exact List.forall_iff_forall_mem.mp s9_sub op h
  · exact List.forall_iff_forall_mem.mp s10_sub op h
  · exact List.forall_iff_forall_mem.mp s11_sub op h
  · exact List.forall_iff_forall_mem.mp s12_sub op h
  · exact List.forall_iff_forall_mem.mp s13_sub op h
  · exact List.forall_iff_forall_mem.mp s14_sub op h
  · exact List.forall_iff_forall_mem.mp s15_sub op h
  · exact List.forall_iff_forall_mem.mp s16_sub op h

theorem ops_fresh : ∀ op ∈ (ops : List (HloOp τ sig (Elt F))), op.fresh = ∅ := by
  intro op h
  simp only [ops, ops0, ops1, ops2, List.mem_append] at h
  rcases h with (h | h | h | h) | (h | h | h | h | h | h | h | h | h) | (h | h | h)
  · exact List.forall_iff_forall_mem.mp s1_fresh op h
  · exact List.forall_iff_forall_mem.mp s2_fresh op h
  · exact List.forall_iff_forall_mem.mp s3_fresh op h
  · exact List.forall_iff_forall_mem.mp s4_fresh op h
  · exact List.forall_iff_forall_mem.mp s5_fresh op h
  · exact List.forall_iff_forall_mem.mp s6_fresh op h
  · exact List.forall_iff_forall_mem.mp s7_fresh op h
  · exact List.forall_iff_forall_mem.mp s8_fresh op h
  · exact List.forall_iff_forall_mem.mp s9_fresh op h
  · exact List.forall_iff_forall_mem.mp s10_fresh op h
  · exact List.forall_iff_forall_mem.mp s11_fresh op h
  · exact List.forall_iff_forall_mem.mp s12_fresh op h
  · exact List.forall_iff_forall_mem.mp s13_fresh op h
  · exact List.forall_iff_forall_mem.mp s14_fresh op h
  · exact List.forall_iff_forall_mem.mp s15_fresh op h
  · exact List.forall_iff_forall_mem.mp s16_fresh op h

theorem scopedRefs_eq : (Finset.univ.filter fun b : Ref sig .tc => b.isScoped) = ∅ := by decide

theorem scopedSems_eq : (Finset.univ.filter fun sm : SemLoc sig => sm.isScoped .tc) = ∅ := by decide

/-- Every execution of the reference ends, with the attention and the loss in its result arrays and its arguments
    as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v140) =
          result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v47) = aux (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      (h c main_v140).trans ((congrFun (after_ops (launchContents m c)) (Proc.devRef .tc main_v140)).trans (st16_v140 (launchContents m c))),
      (h c main_v47).trans ((congrFun (after_ops (launchContents m c)) (Proc.devRef .tc main_v47)).trans (st16_v47 (launchContents m c))),
      (h c main_arg0).trans ((congrFun (after_ops (launchContents m c)) (Proc.devRef .tc main_arg0)).trans (st16_arg0 (launchContents m c))),
      (h c main_arg1).trans ((congrFun (after_ops (launchContents m c)) (Proc.devRef .tc main_arg1)).trans (st16_arg1 (launchContents m c))),
      (h c main_arg2).trans ((congrFun (after_ops (launchContents m c)) (Proc.devRef .tc main_arg2)).trans (st16_arg2 (launchContents m c))),
      (h c main_arg3).trans ((congrFun (after_ops (launchContents m c)) (Proc.devRef .tc main_arg3)).trans (st16_arg3 (launchContents m c))),
      (h c main_arg4).trans ((congrFun (after_ops (launchContents m c)) (Proc.devRef .tc main_arg4)).trans (st16_arg4 (launchContents m c))),
      (h c main_arg5).trans ((congrFun (after_ops (launchContents m c)) (Proc.devRef .tc main_arg5)).trans (st16_arg5 (launchContents m c)))⟩)
    (run_seq scopedRefs_eq scopedSems_eq defs main (fun _ => ops) main_eq (fun _ => List.forall_iff_forall_mem.mpr ops_sub) m ρ fun _ => ops_fresh)

end Cert.Ref

end
-- ==== Proof.Words.lean ====
/-
  The numbers that the float words of the two programs denote, and the two named constants of the kernel.
-/
module

public import proofs.«01_k».proof.KernelIdeal
public import Idealize.ShloMosaic.Lib.Pointwise

@[expose] public section

noncomputable section

namespace Cert.Words

open Idealize.ShloMosaic

/-- The kernel's `1e-6 / 8`. -/
theorem eps8 : Ideal.ofBits FTy.f32 0x340637BD#32 = ((8796093 / 2 ^ 46 : ℝ) : EReal) := by
  simp [Ideal.ofBits, Ideal.ieee, -EReal.coe_mul]; norm_num

/-- The reference's `1e-6`. -/
theorem eps : Ideal.ofBits FTy.f32 0x358637BD#32 = ((8796093 / 2 ^ 43 : ℝ) : EReal) := by
  simp [Ideal.ofBits, Ideal.ieee, -EReal.coe_mul]; norm_num

theorem two : Ideal.ofBits FTy.f32 0x40000000#32 = ((2 : ℝ) : EReal) := by
  simp [Ideal.ofBits, Ideal.ieee, -EReal.coe_mul]; norm_num

theorem eighth : Ideal.ofBits FTy.f32 0x3E000000#32 = ((1 / 8 : ℝ) : EReal) := by
  simp [Ideal.ofBits, Ideal.ieee, -EReal.coe_mul]; norm_num

/-- The reference's `1e-5`. -/
theorem countEps : Ideal.ofBits FTy.f32 0x3727C5AC#32 = ((10995116 / 2 ^ 40 : ℝ) : EReal) := by
  simp [Ideal.ofBits, Ideal.ieee, -EReal.coe_mul]; norm_num

/-- The reference's commitment `1e-4`. -/
theorem commitment : Ideal.ofBits FTy.f32 0x38D1B717#32 = ((13743895 / 2 ^ 37 : ℝ) : EReal) := by
  simp [Ideal.ofBits, Ideal.ieee, -EReal.coe_mul]; norm_num

/-- The number of entries of a `12 × 2048 × 64` array. -/
theorem entries : Ideal.ofBits FTy.f32 0x49C00000#32 = ((1572864 : ℝ) : EReal) := by
  simp [Ideal.ofBits, Ideal.ieee, -EReal.coe_mul]; norm_num

theorem posInf : Ideal.ofBits FTy.f32 0x7F800000#32 = ⊤ := by
  simp [Ideal.ofBits, Ideal.ieee]

theorem negInf : Ideal.ofBits FTy.f32 0xFF800000#32 = ⊥ := by
  simp [Ideal.ofBits, Ideal.ieee]

/-- The kernel's named constant for one over the number of clusters plus `1e-5`. -/
theorem invCount : Named.named (F := Ideal) Cert.KernelIdeal.κ "inv_count" (φ := .f32) 0x3EFFFFAC#32
    = ((274877906944 / 549758562667 : ℝ) : EReal) := rfl

/-- The kernel's named constant for the commitment over the number of entries. -/
theorem lossScale : Named.named (F := Ideal) Cert.KernelIdeal.κ "loss_scale" (φ := .f32) 0x2E8BCF65#32
    = ((13743895 / 216172782113783808 : ℝ) : EReal) := rfl

end Cert.Words

end
-- ==== Proof.Finite.lean ====
/-
  What the precondition says: every entry of the five arrays it names is a real number.
-/
module

public import proofs.«01_k».proof.Defs
public import proofs.«01_k».proof.Proof.Words
public import Idealize.ShloMosaic.Lib.Pointwise

@[expose] public section

noncomputable section

namespace Cert.Finite

open Idealize.ShloMosaic

/-- The side conditions of the precondition's text. -/
theorem facts : Cert.Pre_finite.Facts := ⟨by decide, by decide, by decide⟩

/-- An extended real whose absolute value is below +∞ is a real number. -/
theorem real_of_abs_lt (x : EReal) (h : Ideal.cmp .olt (max x (-x)) ⊤ = 1#1) : x = ((x.toReal : ℝ) : EReal) := by
  have hlt : max x (-x) < ⊤ := by
    by_contra q
    simp [Ideal.cmp, q] at h
  refine (EReal.coe_toReal (fun e => ?_) (fun e => ?_)).symm
  · rw [e] at hlt
    simp at hlt
  · rw [e] at hlt
    simp at hlt

/-- The same of an array: if the comparison of its absolute values with +∞ is all ones, its entries are real numbers. -/
theorem real_of_all {s : Shape} (x : FVec Ideal s .f32) (b : Cert.Pre_finite.S_.BroadcastsInDim s (![] : Fin 0 → Fin s.rank))
    (h : cmpf .olt (Host.absf x) (broadcastInDim s ![] b (constant Cert.Pre_finite.S_ .f32 0x7F800000#32)) = fun _ => 1#1) (i : s.Idx) :
    x i = (((x i : EReal).toReal : ℝ) : EReal) := by
  refine real_of_abs_lt (x i) ?_
  rw [← Words.posInf]
  exact congrFun h i

variable (m : (ℓ : Loc Cert.KernelIdeal.nD Cert.KernelIdeal.τ Cert.KernelIdeal.sig) → Buf (Elt Ideal) ℓ)

/-- Every entry of the array is a real number. -/
abbrev AllReal {s : Shape} (x : FVec Ideal s .f32) : Prop := ∀ i, x i = (((x i : EReal).toReal : ℝ) : EReal)

/-- Under the precondition the queries, keys, values, means and memory keys are real numbers. -/
theorem reals (hm : Cert.Pre_KernelIdeal_finite (hPre_finite := facts) m) (c : Dev Cert.KernelIdeal.nD) :
    AllReal (s := Cert.KernelIdeal.S1x2048x768) (m ((c.tc : Thread Cert.KernelIdeal.nD Cert.KernelIdeal.τ).loc Cert.KernelIdeal.main_arg0))
    ∧ AllReal (s := Cert.KernelIdeal.S1x2048x768) (m ((c.tc : Thread Cert.KernelIdeal.nD Cert.KernelIdeal.τ).loc Cert.KernelIdeal.main_arg1))
    ∧ AllReal (s := Cert.KernelIdeal.S1x2048x768) (m ((c.tc : Thread Cert.KernelIdeal.nD Cert.KernelIdeal.τ).loc Cert.KernelIdeal.main_arg2))
    ∧ AllReal (s := Cert.KernelIdeal.S12x2x64) (m ((c.tc : Thread Cert.KernelIdeal.nD Cert.KernelIdeal.τ).loc Cert.KernelIdeal.main_arg3))
    ∧ AllReal (s := Cert.KernelIdeal.S12x2x1x64) (m ((c.tc : Thread Cert.KernelIdeal.nD Cert.KernelIdeal.τ).loc Cert.KernelIdeal.main_arg4)) := by
  obtain ⟨h0, h1, h2, h3, h4⟩ := hm c
  exact ⟨real_of_all _ facts.bcast_S_S1x2048x768 h0, real_of_all _ facts.bcast_S_S1x2048x768 h1, real_of_all _ facts.bcast_S_S1x2048x768 h2,
    real_of_all _ facts.bcast_S_S12x2x64 h3, real_of_all _ facts.bcast_S_S12x2x1x64 h4⟩

end Cert.Finite

end
-- ==== Proof.Spec.lean ====
/-
  The mathematics that the kernel and the reference share, for one head: attention of one token over all other
  tokens and one memory row, as a quotient of sums of exponentials, and the facts by which either program's way of
  computing it gives that quotient.
-/
module

public import Idealize.ShloMosaic.PureOps.Ideal
public import Idealize.ShloMosaic.Lib.Pointwise

@[expose] public section

noncomputable section

namespace Cert.Spec

open Idealize.ShloMosaic

/-- A finite sum of real numbers, read in the extended reals, is the sum of the numbers read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greater of two real numbers, read in the extended reals. -/
theorem coe_max (x y : ℝ) : ((max x y : ℝ) : EReal) = max (x : EReal) (y : EReal) :=
  EReal.coe_strictMono.monotone.map_max

/-- The product of two rows of real numbers. -/
def dot {n : Nat} (x y : Fin n → ℝ) : ℝ := ∑ d, x d * y d

theorem dot_self_nonneg {n : Nat} (x : Fin n → ℝ) : 0 ≤ dot x x := Finset.sum_nonneg fun _ _ => mul_self_nonneg _

theorem sum_coe_mul {n : Nat} (f g : Fin n → EReal) (x y : Fin n → ℝ) (hf : ∀ d, f d = (x d : EReal))
    (hg : ∀ d, g d = (y d : EReal)) : ∑ d, f d * g d = ((dot x y : ℝ) : EReal) := by
  unfold dot
  rw [coe_sum]
  exact Finset.sum_congr rfl fun d _ => by rw [hf, hg, EReal.coe_mul]

/-- The sum of the exponentials of the scores of a token: its memory score `s0` and its scores `s j` at the other
    tokens. -/
def Z {n : Nat} (s : Fin n → ℝ) (s0 : ℝ) (i : Fin n) : ℝ :=
  Real.exp s0 + ∑ j, if j = i then 0 else Real.exp (s j)

/-- The sum of the values `v` of the other tokens, weighted with the exponentials of the scores. -/
def N {n : Nat} (s v : Fin n → ℝ) (i : Fin n) : ℝ :=
  ∑ j, if j = i then 0 else Real.exp (s j) * v j

/-- The attention of token `i`: the softmax of its scores, its own score left out, applied to the values `v` of the
    other tokens and the memory value `M`. -/
def attend {n : Nat} (s v : Fin n → ℝ) (s0 : ℝ) (M : EReal) (i : Fin n) : EReal :=
  ((N s v i / Z s s0 i : ℝ) : EReal) + ((Real.exp s0 / Z s s0 i : ℝ) : EReal) * M

theorem Z_pos {n : Nat} (s : Fin n → ℝ) (s0 : ℝ) (i : Fin n) : 0 < Z s s0 i :=
  add_pos_of_pos_of_nonneg (Real.exp_pos _) (Finset.sum_nonneg fun j _ => by split <;> positivity)

/-- A real number and a positive multiple of an extended real, times a positive real. -/
theorem add_mul_coe {a b r : ℝ} (hb : 0 < b) (hr : 0 < r) (M : EReal) :
    ((a : EReal) + (b : EReal) * M) * (r : EReal) = ((a * r : ℝ) : EReal) + ((b * r : ℝ) : EReal) * M := by
  induction M using EReal.rec with
  | bot =>
    rw [EReal.coe_mul_bot_of_pos hb, EReal.coe_mul_bot_of_pos (mul_pos hb hr), EReal.add_bot, EReal.add_bot,
      EReal.bot_mul_coe_of_pos hr]
  | coe x => norm_cast; ring
  | top =>
    rw [EReal.coe_mul_top_of_pos hb, EReal.coe_mul_top_of_pos (mul_pos hb hr), EReal.coe_add_top, EReal.coe_add_top,
      EReal.top_mul_coe_of_pos hr]

/-- All scores less one number `m`: the sum of exponentials is scaled by `exp (-m)`. -/
theorem Z_shift {n : Nat} (s : Fin n → ℝ) (s0 m : ℝ) (i : Fin n) :
    Z (fun j => s j - m) (s0 - m) i = Z s s0 i * Real.exp (-m) := by
  unfold Z
  rw [add_mul, Finset.sum_mul, ← Real.exp_add, sub_eq_add_neg]
  congr 1
  refine Finset.sum_congr rfl fun j _ => ?_
  split
  · rw [zero_mul]
  · rw [← Real.exp_add]; exact congrArg Real.exp (sub_eq_add_neg _ _)

theorem N_shift {n : Nat} (s v : Fin n → ℝ) (m : ℝ) (i : Fin n) :
    N (fun j => s j - m) v i = N s v i * Real.exp (-m) := by
  unfold N
  rw [Finset.sum_mul]
  refine Finset.sum_congr rfl fun j _ => ?_
  split
  · rw [zero_mul]
  · show Real.exp (s j - m) * v j = _
    rw [sub_eq_add_neg, Real.exp_add]; ring

/-- Attention does not change when one number is taken from all scores. -/
theorem attend_shift {n : Nat} (s v : Fin n → ℝ) (s0 m : ℝ) (M : EReal) (i : Fin n) :
    attend (fun j => s j - m) v (s0 - m) M i = attend s v s0 M i := by
  unfold attend
  have he : Real.exp (-m) ≠ 0 := (Real.exp_pos _).ne'
  rw [Z_shift, N_shift, mul_div_mul_right _ _ he, sub_eq_add_neg, Real.exp_add, mul_div_mul_right _ _ he]

/-- The sum over all tokens less the term of token `i` is the sum over the other tokens. -/
theorem sum_sub_self {n : Nat} (f : Fin n → ℝ) (i : Fin n) : ∑ j, f j - f i = ∑ j, if j = i then 0 else f j := by
  rw [sub_eq_iff_eq_add, ← Finset.sum_ite_eq' Finset.univ i (fun j => f j) |>.trans (if_pos (Finset.mem_univ i)),
    ← Finset.sum_add_distrib]
  refine Finset.sum_congr rfl fun j _ => ?_
  split <;> simp

/-- The kernel's form: sums over all tokens with the token's own term taken off, its memory term added, every score
    less one number `m`, and one division at the end. -/
theorem attend_kernel {n : Nat} (s v : Fin n → ℝ) (s0 m : ℝ) (M : EReal) (i : Fin n) :
    Ideal.div
      (((∑ j, Real.exp (s j - m) * v j - Real.exp (s i - m) * v i : ℝ) : EReal) + ((Real.exp (s0 - m) : ℝ) : EReal) * M)
      ((∑ j, Real.exp (s j - m) - Real.exp (s i - m) + Real.exp (s0 - m) : ℝ) : EReal)
      = attend s v s0 M i := by
  have hz : ∑ j, Real.exp (s j - m) - Real.exp (s i - m) + Real.exp (s0 - m) = Z (fun j => s j - m) (s0 - m) i := by
    rw [sum_sub_self (fun j => Real.exp (s j - m)) i, add_comm]; rfl
  have hn : ∑ j, Real.exp (s j - m) * v j - Real.exp (s i - m) * v i = N (fun j => s j - m) v i :=
    sum_sub_self (fun j => Real.exp (s j - m) * v j) i
  have hp := Z_pos (fun j => s j - m) (s0 - m) i
  rw [hz, hn, Ideal.div_coe hp.ne', add_mul_coe (Real.exp_pos _) (by positivity), mul_one_div, mul_one_div,
    ← attend_shift s v s0 m M i]
  rfl

/-- The greatest of the scores, folded from −∞, is a real number when one of them is and none is +∞. -/
theorem fold_max_real {n : Nat} (S : Fin n → EReal) (k : Fin n) (hk : S k ≠ ⊥) (ht : ∀ l, S l ≠ ⊤) :
    ∃ m : ℝ, max (⊥ : EReal) (Finset.univ.fold max ⊥ S) = (m : EReal) := by
  have h : max (⊥ : EReal) (Finset.univ.fold max ⊥ S) = Finset.univ.fold max ⊥ S := max_eq_right bot_le
  rw [h]
  have h1 : Finset.univ.fold max ⊥ S ≠ ⊤ := by
    intro h'
    have : (⊤ : EReal) ≤ Finset.univ.fold max ⊥ S := h'.ge
    rw [Finset.le_fold_max] at this
    rcases this with h2 | ⟨x, _, hx⟩
    · simp at h2
    · exact ht x (top_le_iff.mp hx)
  have h2 : Finset.univ.fold max ⊥ S ≠ ⊥ := by
    intro h'
    have : S k ≤ Finset.univ.fold max ⊥ S := by
      rw [Finset.le_fold_max]; exact .inr ⟨k, Finset.mem_univ k, le_rfl⟩
    rw [h'] at this
    exact hk (le_bot_iff.mp this)
  exact ⟨_, (EReal.coe_toReal h1 h2).symm⟩

/-- The reference's form: the scores in a row, the memory score first, the token's own score −∞; the softmax of the
    row with its greatest score taken off, times the row of values, the memory value first. -/
theorem attend_softmax {n : Nat} (s v : Fin n → ℝ) (s0 : ℝ) (M : EReal) (i : Fin n)
    (S W : Fin (n + 1) → EReal) (hS0 : S 0 = (s0 : EReal)) (hS : ∀ j : Fin n, S j.succ = if j = i then ⊥ else (s j : EReal))
    (hW0 : W 0 = M) (hW : ∀ j : Fin n, W j.succ = (v j : EReal)) :
    ∑ l, Ideal.div (Ideal.exp (S l - max ⊥ (Finset.univ.fold max ⊥ S)))
        (0 + ∑ l', Ideal.exp (S l' - max ⊥ (Finset.univ.fold max ⊥ S))) * W l
      = attend s v s0 M i := by
  obtain ⟨m, hm⟩ := fold_max_real S 0 (by rw [hS0]; exact EReal.coe_ne_bot _) (fun l => by
    refine Fin.cases ?_ (fun j => ?_) l
    · rw [hS0]; exact EReal.coe_ne_top _
    · rw [hS]; split
      · exact bot_ne_top
      · exact EReal.coe_ne_top _)
  rw [hm]
  have e0 : Ideal.exp (S 0 - m) = ((Real.exp (s0 - m) : ℝ) : EReal) := by
    rw [hS0, ← EReal.coe_sub, Ideal.exp_coe]
  have ej : ∀ j : Fin n, Ideal.exp (S j.succ - m) = ((if j = i then 0 else Real.exp (s j - m) : ℝ) : EReal) := by
    intro j
    rw [hS]
    split
    · rw [EReal.bot_sub]; rfl
    · rw [← EReal.coe_sub, Ideal.exp_coe]
  have hz : (0 : EReal) + ∑ l', Ideal.exp (S l' - m) = ((Z (fun j => s j - m) (s0 - m) i : ℝ) : EReal) := by
    rw [zero_add, Fin.sum_univ_succ, e0, Finset.sum_congr rfl fun j _ => ej j, ← coe_sum, ← EReal.coe_add]; rfl
  have hp := Z_pos (fun j => s j - m) (s0 - m) i
  rw [hz, Fin.sum_univ_succ, e0, hW0, Ideal.div_coe hp.ne']
  have ht : ∀ j : Fin n, Ideal.div (Ideal.exp (S j.succ - m)) ((Z (fun j => s j - m) (s0 - m) i : ℝ) : EReal) * W j.succ
      = (((if j = i then 0 else Real.exp (s j - m) * v j) * (1 / Z (fun j => s j - m) (s0 - m) i) : ℝ) : EReal) := by
    intro j
    rw [ej, hW, Ideal.div_coe hp.ne', ← EReal.coe_mul, ← EReal.coe_mul]
    congr 1
    split <;> ring
  rw [Finset.sum_congr rfl fun j _ => ht j, ← coe_sum, ← Finset.sum_mul, add_comm, ← EReal.coe_mul, mul_one_div, mul_one_div,
    ← attend_shift s v s0 m M i]
  rfl

/-- Tokens in another order: the attention of the token at place `p` of a permutation `t` of the tokens. -/
theorem attend_perm {n : Nat} (t : Fin n → Fin n) (ht : Function.Bijective t) (s v : Fin n → ℝ) (s0 : ℝ) (M : EReal)
    (p : Fin n) : attend (fun j => s (t j)) (fun j => v (t j)) s0 M p = attend s v s0 M (t p) := by
  have hZ : Z (fun j => s (t j)) s0 p = Z s s0 (t p) := by
    unfold Z
    rw [← ht.sum_comp (fun j => if j = t p then 0 else Real.exp (s j))]
    simp only [ht.injective.eq_iff]
  have hN : N (fun j => s (t j)) (fun j => v (t j)) p = N s v (t p) := by
    unfold N
    rw [← ht.sum_comp (fun j => if j = t p then 0 else Real.exp (s j) * v j)]
    simp only [ht.injective.eq_iff]
  unfold attend
  rw [hZ, hN]

/-! ## The commitment loss -/

/-- The square of the distance of two rows. -/
def sqDist {n : Nat} (x y : Fin n → ℝ) : ℝ := ∑ d, (x d - y d) * (x d - y d)

theorem sqDist_nonneg {n : Nat} (x y : Fin n → ℝ) : 0 ≤ sqDist x y := Finset.sum_nonneg fun _ _ => mul_self_nonneg _

/-- The square expanded. -/
theorem sqDist_eq {n : Nat} (x y : Fin n → ℝ) : sqDist x y = dot x x + dot y y - 2 * dot x y := by
  unfold sqDist dot
  rw [Finset.mul_sum, ← Finset.sum_add_distrib, ← Finset.sum_sub_distrib]
  exact Finset.sum_congr rfl fun d _ => by ring

/-- A row divided by its norm plus `e`. -/
def unit {n : Nat} (e : ℝ) (x : Fin n → ℝ) : Fin n → ℝ := fun d => x d / (Real.sqrt (dot x x) + e)

/-- The square of the distance of a row from the nearer of two rows. -/
def nearSq {n : Nat} (y : Fin n → ℝ) (M : Fin 2 → Fin n → ℝ) : ℝ :=
  if sqDist y (M 0) ≤ sqDist y (M 1) then sqDist y (M 0) else sqDist y (M 1)

theorem dot_scale {n : Nat} (x y : Fin n → ℝ) (r : ℝ) : dot (fun d => x d * r) y = dot x y * r := by
  unfold dot
  rw [Finset.sum_mul]
  exact Finset.sum_congr rfl fun d _ => by ring

theorem dot_comm {n : Nat} (x y : Fin n → ℝ) : dot x y = dot y x :=
  Finset.sum_congr rfl fun d _ => mul_comm _ _

/-- A row and its tolerance scaled by one positive number give the same unit row. -/
theorem unit_scale {n : Nat} (e r : ℝ) (hr : 0 < r) (x : Fin n → ℝ) : unit (e * r) (fun d => x d * r) = unit e x := by
  funext d
  unfold unit
  have h : dot (fun d => x d * r) (fun d => x d * r) = dot x x * (r * r) := by
    rw [dot_scale, dot_comm, dot_scale]; ring
  rw [h, Real.sqrt_mul (dot_self_nonneg x), Real.sqrt_mul_self hr.le, ← add_mul, mul_div_mul_right _ _ hr.ne']

/-- The product of the unit row with a row. -/
theorem dot_unit {n : Nat} (e : ℝ) (x y : Fin n → ℝ) : dot (unit e x) y = dot x y * (1 / (Real.sqrt (dot x x) + e)) := by
  rw [← dot_scale]
  exact congrArg (fun z => dot z y) (funext fun d => div_eq_mul_one_div _ _)

/-- The square of the unit row's norm. -/
theorem dot_unit_unit {n : Nat} (e : ℝ) (x : Fin n → ℝ) :
    dot (unit e x) (unit e x) = Real.sqrt (dot x x) * (1 / (Real.sqrt (dot x x) + e)) * (Real.sqrt (dot x x) * (1 / (Real.sqrt (dot x x) + e))) := by
  rw [dot_unit, dot_comm, dot_unit]
  have h := Real.mul_self_sqrt (dot_self_nonneg x)
  generalize Real.sqrt (dot x x) = r at h
  rw [← h]
  ring

end Cert.Spec

end
-- ==== Proof.Answer.lean ====
/-
  The two results of the problem as functions of real arguments.

  `Q`, `K`, `V` are the queries, keys and values of every head, `M` the two means of every head, `MK` and `MV` the
  memory key and value of each of its two clusters.
-/
module

public import proofs.«01_k».proof.Proof.Spec

@[expose] public section

noncomputable section

namespace Cert.Spec

/-- The reference's tolerance, `1e-6`. -/
abbrev eps : ℝ := 8796093 / 2 ^ 43

/-- The attention of token `i` in cluster `p`, at feature `d`: over the cluster's memory row and every token but `i`
    itself, the scores being the products of the query with the keys, an eighth of them. -/
def attended (Q K V : Fin 12 → Fin 2048 → Fin 64 → ℝ) (MK : Fin 12 → Fin 2 → Fin 64 → ℝ) (MV : Fin 12 → Fin 2 → Fin 64 → EReal)
    (h : Fin 12) (p : Fin 2) (i : Fin 2048) (d : Fin 64) : EReal :=
  attend (fun j => dot (Q h i) (K h j) * (1 / 8)) (fun j => V h j d) (dot (Q h i) (MK h p) * (1 / 8)) (MV h p d) i

/-- The first result: the two clusters' attentions, summed and divided by two plus `1e-5`. -/
def attention (Q K V : Fin 12 → Fin 2048 → Fin 64 → ℝ) (MK : Fin 12 → Fin 2 → Fin 64 → ℝ) (MV : Fin 12 → Fin 2 → Fin 64 → EReal)
    (h : Fin 12) (i : Fin 2048) (d : Fin 64) : EReal :=
  (attended Q K V MK MV h 0 i d + attended Q K V MK MV h 1 i d) * ((274877906944 / 549758562667 : ℝ) : EReal)

/-- The second result: the mean over all entries of the squared distance of the unit query from its nearer mean, times
    the commitment `1e-4`. -/
def loss (Q : Fin 12 → Fin 2048 → Fin 64 → ℝ) (M : Fin 12 → Fin 2 → Fin 64 → ℝ) : ℝ :=
  (∑ h, ∑ i, nearSq (unit eps (Q h i)) (M h)) * (13743895 / 216172782113783808)

end Cert.Spec

end
-- ==== Proof.KerBlock.lean ====
/-
  What one grid point of the kernel computes from its blocks, over the ideal numbers: the attention of its head,
  entry by entry.
-/
module

public import proofs.«01_k».proof.Proof.Gen.KernelIdeal.Skeleton
public import proofs.«01_k».proof.Proof.Spec
public import proofs.«01_k».proof.Proof.Words
public import Idealize.ShloMosaic.Lib.Pointwise

@[expose] public section

set_option maxRecDepth 16384

noncomputable section

namespace Cert.Ker

open Cert.KernelIdeal Cert.KernelIdeal.Gen Idealize.ShloMosaic Cert.Spec

section
variable (v0 v2 v4 : Vec Ideal S1x2048x64 .bf16) (w v58 : Vec Ideal S1x2x64 .f32)
variable (a k v : Fin 2048 → Fin 64 → ℝ) (mk : Fin 2 → Fin 64 → ℝ)
variable (h0 : ∀ i d, v0 (ix3 0 i d) = (a i d : EReal)) (h2 : ∀ i d, v2 (ix3 0 i d) = (k i d : EReal))
variable (h4 : ∀ i d, v4 (ix3 0 i d) = (v i d : EReal)) (hw : ∀ c d, w (ix3 0 c d) = (mk c d : EReal))

include h0 hw in
/-- The memory scores. -/
theorem memScore_apply (i : Fin 2048) (c : Fin 2) : k0_pay9 v0 w (ix2 i c) = ((dot (a i) (mk c) : ℝ) : EReal) := by
  pointwise [k0_pay9, k0_pay6, k0_pay8, k0_pay2]
  exact sum_coe_mul _ _ _ _ (h0 i) (hw c)

include h0 in
/-- The norms of the query rows. -/
theorem norm_apply (i : Fin 2048) : k0_pay10 v0 (ix1 i) = ((Real.sqrt (dot (a i) (a i)) : ℝ) : EReal) := by
  pointwise [k0_pay10, k0_pay6, k0_pay2]
  rw [sum_coe_mul _ _ _ _ (h0 i) (h0 i), Ideal.sqrt_coe, if_neg (not_lt.mpr (dot_self_nonneg _))]

include h0 h2 in
/-- The score of a token at itself. -/
theorem selfScore_apply (i : Fin 2048) : k0_pay11 v0 v2 (ix1 i) = ((dot (a i) (k i) : ℝ) : EReal) := by
  pointwise [k0_pay11, k0_pay6, k0_pay2, k0_pay7, k0_pay3]
  exact sum_coe_mul _ _ _ _ (h0 i) (h2 i)

/-- The greatest of the squared norms is a real number. -/
theorem fold_squares_real {n m : Nat} (hn : 0 < n) (f : Fin n → Fin m → EReal) (x : Fin n → Fin m → ℝ)
    (hf : ∀ i d, f i d = (x i d : EReal)) :
    ∃ r : ℝ, 0 ≤ r ∧ Finset.fold max (Ideal.ofBits FTy.f32 0xFF800000#32) (fun i => ∑ d, f i d * f i d) Finset.univ = (r : EReal) := by
  have h : ∀ i, ∑ d, f i d * f i d = ((dot (x i) (x i) : ℝ) : EReal) := fun i => sum_coe_mul _ _ _ _ (hf i) (hf i)
  obtain ⟨r, hr⟩ := fold_max_real (fun i => ∑ d, f i d * f i d) ⟨0, hn⟩ (by simp only [h]; exact EReal.coe_ne_bot _)
    (fun l => by simp only [h]; exact EReal.coe_ne_top _)
  rw [max_eq_right bot_le] at hr
  rw [Words.negInf]
  refine ⟨r, ?_, hr⟩
  have h1 : ((dot (x ⟨0, hn⟩) (x ⟨0, hn⟩) : ℝ) : EReal) ≤ (r : EReal) := by
    rw [← hr, Finset.le_fold_max]
    exact .inr ⟨⟨0, hn⟩, Finset.mem_univ _, (h _).ge⟩
  exact (dot_self_nonneg _).trans (EReal.coe_le_coe_iff.mp h1)

include h0 h2 hw in
/-- The number taken off the scores of a token is a real number. -/
theorem shift_real (i : Fin 2048) : ∃ m : ℝ, k0_pay12 v0 v2 w (ix1 i) = (m : EReal) := by
  pointwise [k0_pay12, k0_pay7, k0_pay3, k0_pay8]
  obtain ⟨r1, hr1, e1⟩ := fold_squares_real (by decide) (fun j d => v2 (ix3 0 j d)) k h2
  obtain ⟨r2, hr2, e2⟩ := fold_squares_real (by decide) (fun j d => w (ix3 0 j d)) mk hw
  rw [norm_apply v0 a h0 i]
  rw [e1, e2, ← coe_max]
  show ∃ m : ℝ, Ideal.sqrt ((max r1 r2 : ℝ) : EReal) * _ = _
  rw [Ideal.sqrt_coe, if_neg (not_lt.mpr (le_max_of_le_left hr1)), ← EReal.coe_mul]
  exact ⟨_, rfl⟩

include h0 h2 h4 hw in
/-- The output block: at token `i` and entry `d` the sum over the two clusters of the attention of the token, times
    the constant named for one over the number of clusters. -/
theorem out_apply (i : Fin 2048) (d : Fin 64) :
    k0_pay16 (k0_pay14 (k0_pay4 v4) (k0_pay5 v4) (k0_pay9 v0 w) (k0_pay11 v0 v2) (k0_pay12 v0 v2 w) (k0_pay13 v0 v2 w) v58)
        (k0_pay15 (F := Ideal)) (ix3 0 i d)
      = (attend (fun j => dot (a i) (k j)) (fun j => v j d) (dot (a i) (mk 0)) (v58 (ix3 0 0 d)) i
          + attend (fun j => dot (a i) (k j)) (fun j => v j d) (dot (a i) (mk 1)) (v58 (ix3 0 1 d)) i)
        * Named.named κ "inv_count" 0x3EFFFFAC#32 := by
  obtain ⟨m, hm⟩ := shift_real v0 v2 w a k mk h0 h2 hw i
  pointwise [k0_pay14, k0_pay5, k0_pay4, k0_pay16, k0_pay15]
  have hs : ∀ j, k0_pay13 v0 v2 w (ix2 i j) = ((dot (a i) (k j) - m : ℝ) : EReal) := by
    intro j
    pointwise [k0_pay13, k0_pay3, k0_pay2]
    rw [hm, sum_coe_mul _ _ _ _ (h0 i) (h2 j), EReal.coe_sub]
  simp only [hs, memScore_apply v0 w a mk h0 hw, selfScore_apply v0 v2 a k h0 h2, hm, h4, ← EReal.coe_sub, Ideal.exp_coe,
    ← EReal.coe_mul, ← coe_sum, ← EReal.coe_add]
  rw [attend_kernel, attend_kernel]

end

end Cert.Ker

end
-- ==== Proof.KerLoss.lean ====
/-
  The loss that one grid point of the kernel computes from its blocks, over the ideal numbers.
-/
module

public import proofs.«01_k».proof.Proof.KerBlock

@[expose] public section

set_option maxRecDepth 65536

noncomputable section

namespace Cert.Ker

open Cert.KernelIdeal Cert.KernelIdeal.Gen Idealize.ShloMosaic Cert.Spec

/-- The kernel's tolerance, `1e-6 / 8`. -/
abbrev e8 : ℝ := 8796093 / 2 ^ 46

/-- The loss block: the sum over the tokens of the squared distance of the unit query row from the nearer cluster
    mean, times the constant named for the commitment over the number of entries. -/
theorem loss_apply (x : FVec Ideal S2048x64 .f32) (nr : FVec Ideal S2048 .f32) (w : Vec Ideal S1x2x64 .f32)
    (a : Fin 2048 → Fin 64 → ℝ) (M : Fin 2 → Fin 64 → ℝ) (hx : ∀ i d, x (ix2 i d) = (a i d : EReal))
    (hn : ∀ i, nr (ix1 i) = ((Real.sqrt (dot (a i) (a i)) : ℝ) : EReal)) (hw : ∀ c d, w (ix3 0 c d) = (M c d : EReal)) :
    k0_pay1 (k0_pay22 x nr w) (k0_pay23 x nr w) (k0_pay24 w) (k0_pay25 w) (ix3 0 0 0)
      = ((∑ i, nearSq (unit e8 (a i)) M : ℝ) : EReal) * Named.named κ "loss_scale" 0x2E8BCF65#32 := by
  pointwise [k0_pay1, k0_pay22, k0_pay23, k0_pay24, k0_pay25, k0_pay21, k0_pay20, k0_pay19, k0_pay18, k0_pay17]
  have hM : ∀ c, ∑ d, w (ix3 0 c d) * w (ix3 0 c d) = ((dot (M c) (M c) : ℝ) : EReal) :=
    fun c => sum_coe_mul _ _ _ _ (hw c) (hw c)
  have hA : ∀ i c, ∑ d, x (ix2 i d) * w (ix3 0 c d) = ((dot (a i) (M c) : ℝ) : EReal) :=
    fun i c => sum_coe_mul _ _ _ _ (hx i) (hw c)
  have hd : ∀ i, Ideal.div 1 (((Real.sqrt (dot (a i) (a i)) : ℝ) : EReal) + ((e8 : ℝ) : EReal))
      = ((1 / (Real.sqrt (dot (a i) (a i)) + e8) : ℝ) : EReal) := by
    intro i
    have : Real.sqrt (dot (a i) (a i)) + e8 ≠ 0 := by
      have := Real.sqrt_nonneg (dot (a i) (a i))
      have h8 : (0 : ℝ) < e8 := by norm_num
      positivity
    rw [← EReal.coe_add, Ideal.div_coe this, one_mul]
  rw [coe_sum]
  congr 1
  refine Finset.sum_congr rfl fun i _ => ?_
  rw [hM 0, hM 1, hA i 0, hA i 1, hn i, Words.eps8, Words.two, hd i]
  simp only [← EReal.coe_mul, ← EReal.coe_add, ← EReal.coe_sub, ← dot_unit_unit, ← dot_unit, ← sqDist_eq]
  rw [max_eq_left (EReal.coe_nonneg.mpr (sqDist_nonneg _ _)), max_eq_left (EReal.coe_nonneg.mpr (sqDist_nonneg _ _))]
  unfold nearSq
  simp only [EReal.coe_le_coe_iff]
  split
  · rw [← EReal.coe_mul, ← EReal.coe_sub, ← EReal.coe_add, sqDist_eq]; congr 1; ring
  · rw [← EReal.coe_mul, ← EReal.coe_sub, ← EReal.coe_add, sqDist_eq]; congr 1; ring

end Cert.Ker

end
-- ==== Proof.KerBlocks.lean ====
/-
  The blocks that the kernel's input windows hand to a grid point, as entries of the argument arrays.
-/
module

public import proofs.«01_k».proof.Proof.Words
public import proofs.«01_k».proof.Proof.Gen.KernelIdeal.Frame
public import Idealize.ShloMosaic.Lib.Pipeline.ValueKit
public import Idealize.ShloMosaic.Lib.Pointwise

@[expose] public section

set_option maxRecDepth 65536

noncomputable section

namespace Cert.Ker

open Cert.KernelIdeal Cert.KernelIdeal.Gen Idealize.ShloMosaic Idealize.ShloMosaic.TcCoe

/-- Every window's block at a grid point is the member of its array that the point numbers. -/
theorem index_eq : ∀ t : Fin cfg0.N, (win0_0.index t = ![t.val, 0, 0] ∧ win0_1.index t = ![t.val, 0, 0] ∧ win0_2.index t = ![t.val, 0, 0])
    ∧ (win0_3.index t = ![t.val, 0, 0] ∧ win0_4.index t = ![t.val, 0, 0] ∧ win0_5.index t = ![t.val, 0, 0])
    ∧ win0_6.index t = ![t.val, 0, 0] ∧ win0_7.index t = ![t.val, 0, 0] :=
  (by decide +kernel)

/-- A `1 × 2048 × 768` array read, in row-major order, as twelve heads. -/
def headsK (x : FVec Ideal S1x2048x768 .f32) : FVec Ideal S12x2048x64 .f32 := shapeCast S12x2048x64 x shapeCasts_S1x2048x768_S12x2048x64

variable (m : (ℓ : Loc nD τ sig) → Buf (Elt Ideal) ℓ) (c : Dev nD)

/-- The head that a grid point numbers. -/
abbrev hd (t : Fin cfg0.N) : Fin 12 := ⟨t.val, t.isLt⟩

/-! ## The arrays as the lines before the region leave them -/

/-- The queries, an eighth of them, in the narrow format. -/
theorem entry_q : V m c main_v3 = truncf (F := Ideal) .bf16 (mulf (headsK (m ((c : Thread nD τ).loc main_arg0))) (broadcastInDim S12x2048x64 ![] bcast_S_S12x2048x64 (constant S_ .f32 0x3E000000#32))) bitsLt_bf16_f32 := by
  unfold headsK V V0 hostOps0
  simp only [List.flatten_cons, List.flatten_nil, List.append_nil]
  after_results_simp <;> rfl

/-- The keys, in the narrow format. -/
theorem entry_k : V m c main_v5 = truncf (F := Ideal) .bf16 (headsK (m ((c : Thread nD τ).loc main_arg1))) bitsLt_bf16_f32 := by
  unfold headsK V V0 hostOps0
  simp only [List.flatten_cons, List.flatten_nil, List.append_nil]
  after_results_simp <;> rfl

/-- The values, in the narrow format. -/
theorem entry_v : V m c main_v7 = truncf (F := Ideal) .bf16 (headsK (m ((c : Thread nD τ).loc main_arg2))) bitsLt_bf16_f32 := by
  unfold headsK V V0 hostOps0
  simp only [List.flatten_cons, List.flatten_nil, List.append_nil]
  after_results_simp <;> rfl

/-- The memory keys. -/
theorem entry_memk : V m c main_v8 = shapeCast S12x2x64 (m ((c : Thread nD τ).loc main_arg4)) shapeCasts_S12x2x1x64_S12x2x64 := by
  unfold V V0 hostOps0
  simp only [List.flatten_cons, List.flatten_nil, List.append_nil]
  after_results_simp <;> rfl

/-- The memory values. -/
theorem entry_memv : V m c main_v9 = shapeCast S12x2x64 (m ((c : Thread nD τ).loc main_arg5)) shapeCasts_S12x2x1x64_S12x2x64 := by
  unfold V V0 hostOps0
  simp only [List.flatten_cons, List.flatten_nil, List.append_nil]
  after_results_simp <;> rfl

/-! ## The blocks, entry by entry -/

/-- A query block holds an eighth of the head's queries. -/
theorem block_q (t : Fin cfg0.N) (i : Fin 2048) (d : Fin 64) : iblk m c 0 t (ix3 0 i d)
    = headsK (m ((c : Thread nD τ).loc main_arg0)) (ix3 (hd t) i d) * ((1 / 8 : ℝ) : EReal) := by
  have h : iblk m c 0 t (ix3 0 i d) = V m c main_v3 (ix3 (hd t) i d) := by
    blk_ext [iblk, index_eq t]
  rw [h, entry_q]
  pointwise
  rw [Words.eighth]

/-- A key block holds the head's keys. -/
theorem block_k (t : Fin cfg0.N) (i : Fin 2048) (d : Fin 64) : iblk m c 1 t (ix3 0 i d)
    = headsK (m ((c : Thread nD τ).loc main_arg1)) (ix3 (hd t) i d) := by
  have h : iblk m c 1 t (ix3 0 i d) = V m c main_v5 (ix3 (hd t) i d) := by
    blk_ext [iblk, index_eq t]
  rw [h, entry_k]
  rfl

/-- A value block holds the head's values. -/
theorem block_v (t : Fin cfg0.N) (i : Fin 2048) (d : Fin 64) : iblk m c 2 t (ix3 0 i d)
    = headsK (m ((c : Thread nD τ).loc main_arg2)) (ix3 (hd t) i d) := by
  have h : iblk m c 2 t (ix3 0 i d) = V m c main_v7 (ix3 (hd t) i d) := by
    blk_ext [iblk, index_eq t]
  rw [h, entry_v]
  rfl

/-- A block of means holds the head's two means. -/
theorem block_means (t : Fin cfg0.N) (p : Fin 2) (d : Fin 64) : iblk m c 3 t (ix3 0 p d)
    = m ((c : Thread nD τ).loc main_arg3) (ix3 (hd t) p d) := by
  rw [← V_main_arg3 m c]
  blk_ext [iblk, index_eq t]

/-- A block of memory keys holds the head's two memory keys. -/
theorem block_memk (t : Fin cfg0.N) (p : Fin 2) (d : Fin 64) : iblk m c 4 t (ix3 0 p d)
    = m ((c : Thread nD τ).loc main_arg4) (ix4 (hd t) p 0 d) := by
  have h : iblk m c 4 t (ix3 0 p d) = V m c main_v8 (ix3 (hd t) p d) := by
    blk_ext [iblk, index_eq t]
  rw [h, entry_memk]
  pointwise

/-- A block of memory values holds the head's two memory values. -/
theorem block_memv (t : Fin cfg0.N) (p : Fin 2) (d : Fin 64) : iblk m c 5 t (ix3 0 p d)
    = m ((c : Thread nD τ).loc main_arg5) (ix4 (hd t) p 0 d) := by
  have h : iblk m c 5 t (ix3 0 p d) = V m c main_v9 (ix3 (hd t) p d) := by
    blk_ext [iblk, index_eq t]
  rw [h, entry_memv]
  pointwise

end Cert.Ker

end
-- ==== Proof.KerRun.lean ====
/-
  The kernel's run: what its two result arrays hold, block by block.
-/
module

public import proofs.«01_k».proof.Proof.KerBlocks

@[expose] public section

set_option maxRecDepth 65536

noncomputable section

namespace Cert.Ker

open Cert.KernelIdeal Cert.KernelIdeal.Gen Idealize.ShloMosaic Idealize.ShloMosaic.TcCoe Idealize.SL.Sem

variable (m : (ℓ : Loc nD τ sig) → Buf (Elt Ideal) ℓ) (c : Dev nD)

/-- The attention that a grid point computes from its blocks. -/
def attBlock (x0 x1 x2 : Vec Ideal S1x2048x64 .bf16) (x4 x5 : Vec Ideal S1x2x64 .f32) : FVec Ideal S1x2048x64 .f32 :=
  k0_pay16 (k0_pay14 (k0_pay4 x2) (k0_pay5 x2) (k0_pay9 x0 x4) (k0_pay11 x0 x1) (k0_pay12 x0 x1 x4) (k0_pay13 x0 x1 x4) x5) k0_pay15

/-- The loss that a grid point computes from its blocks. -/
def lossBlock (x0 : Vec Ideal S1x2048x64 .bf16) (x3 : Vec Ideal S1x2x64 .f32) : FVec Ideal S1x1x1 .f32 :=
  k0_pay1 (k0_pay22 (k0_pay6 x0) (k0_pay10 x0) x3) (k0_pay23 (k0_pay6 x0) (k0_pay10 x0) x3) (k0_pay24 x3) (k0_pay25 x3)

/-- The grid point that numbers a head. -/
abbrev pt (h : Fin 12) : Fin cfg0.N := ⟨h.val, h.isLt⟩

theorem emb6 (t : Fin cfg0.N) (y : S1x2048x64.Idx) : ((cfg0.win 6).blk t).view.emb y = ix3 (hd t) (y 1) (y 2) := by
  blk_ext [index_eq t]

theorem emb7 (t : Fin cfg0.N) (y : S1x1x1.Idx) : ((cfg0.win 7).blk t).view.emb y = ix3 (hd t) 0 0 := by
  blk_ext [index_eq t]

/-- The attention array after the region, at an entry: what the head's grid point computes. -/
def attArr : Vec Ideal S12x2048x64 .f32 := fun j => attBlock (iblk m c 0 (pt (j 0))) (iblk m c 1 (pt (j 0)))
    (iblk m c 2 (pt (j 0))) (iblk m c 4 (pt (j 0))) (iblk m c 5 (pt (j 0))) (ix3 0 (j 1) (j 2))

/-- The loss array after the region, at an entry: what the head's grid point computes. -/
def lossArr : Vec Ideal S12x1x1 .f32 := fun j => lossBlock (iblk m c 0 (pt (j 0))) (iblk m c 3 (pt (j 0))) (ix3 0 0 0)

theorem attArr_ix3 (t : Fin cfg0.N) (i : Fin 2048) (d : Fin 64) : attArr m c (ix3 (hd t) i d)
    = attBlock (iblk m c 0 t) (iblk m c 1 t) (iblk m c 2 t) (iblk m c 4 t) (iblk m c 5 t) (ix3 0 i d) := rfl

theorem lossArr_ix3 (t : Fin cfg0.N) : lossArr m c (ix3 (hd t) 0 0) = lossBlock (iblk m c 0 t) (iblk m c 3 t) (ix3 0 0 0) := rfl

/-- The attention array after the region: every head is the block that its grid point computes. -/
theorem att_arr : (dats m 0 c).arrAt 6 cfg0.N = attArr m c := by
  refine (dats m 0 c).arrAt_eq_of_covers 6 _ (by decide +kernel) fun t hf y => ?_
  refine Eq.trans ?_ ((congrArg (attArr m c) (emb6 t y)).trans (attArr_ix3 m c t _ _)).symm
  blk_simp
  rw [after0_6]
  frame_out
  show attBlock _ _ _ _ _ y = attBlock _ _ _ _ _ _
  congr 1
  blk_ext

/-- The loss array after the region: every entry is what its grid point computes. -/
theorem loss_arr : (dats m 0 c).arrAt 7 cfg0.N = lossArr m c := by
  refine (dats m 0 c).arrAt_eq_of_covers 7 _ (by decide +kernel) fun t hf y => ?_
  refine Eq.trans ?_ ((congrArg (lossArr m c) (emb7 t y)).trans (lossArr_ix3 m c t)).symm
  blk_simp
  rw [after0_7]
  frame_out
  unfold k0_pay26 k0_pay27
  rw [View.ld_unit_zero]
  case h => funext a; fin_cases a <;> rfl
  show lossBlock _ _ y = lossBlock _ _ _
  congr 1
  blk_ext

theorem arrRef_injective : Function.Injective (Pipeline.arrRef spec0) := by decide

/-- The first result is the attention array, reshaped. -/
theorem tail_att : Pipeline.afterTail₀ cfgs (dats m) 0 (V0 m) [hostOps1] c main_v11
    = shapeCast S1x12x2048x64 (attArr m c) shapeCasts_S12x2048x64_S1x12x2048x64 := by
  unfold Pipeline.afterTail₀ hostOps1
  simp only [List.flatten_cons, List.flatten_nil, List.append_nil]
  after_results_simp
  exact congrArg (fun x => shapeCast S1x12x2048x64 x shapeCasts_S12x2048x64_S1x12x2048x64)
    ((Pipeline.withArrays_arr spec0 arrRef_injective c (V0 m c) _ 6).trans (att_arr m c))

/-- The second result is the sum of the loss array. -/
theorem tail_loss : Pipeline.afterTail₀ cfgs (dats m) 0 (V0 m) [hostOps1] c main_v12
    = Host.reduceAdd (F := Ideal) (φ := .f32) (lossArr m c) (constant S_ .f32 0x00000000#32) reducesTo_S12x1x1_S_d0_1_2 h_S_ := by
  unfold Pipeline.afterTail₀ hostOps1
  simp only [List.flatten_cons, List.flatten_nil, List.append_nil]
  after_results_simp
  exact congrArg (fun x => Host.reduceAdd (F := Ideal) (φ := .f32) x (constant S_ .f32 0x00000000#32) reducesTo_S12x1x1_S_d0_1_2 h_S_)
    ((Pipeline.withArrays_arr spec0 arrRef_injective c (V0 m c) _ 7).trans (loss_arr m c))

/-- Every execution of the kernel ends, with the attention array reshaped and the sum of the loss array in its result
    arrays, and its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v11) = shapeCast S1x12x2048x64 (attArr m c) shapeCasts_S12x2048x64_S1x12x2048x64
      ∧ r.2.mem ((c.tc : Thread nD τ).loc main_v12)
          = Host.reduceAdd (F := Ideal) (φ := .f32) (lossArr m c) (constant S_ .f32 0x00000000#32) reducesTo_S12x1x1_S_d0_1_2 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h.1 c).2 main_v11 (Pipeline.mem_restRefs_of main_v11 (by decide) (by decide))).trans (tail_att m c),
      ((h.1 c).2 main_v12 (Pipeline.mem_restRefs_of main_v12 (by decide) (by decide))).trans (tail_loss m c),
      h.2 c⟩)
    (θ_run_and (run_main m ρ) (unchanged m ρ))

end Cert.Ker

end
-- ==== Proof.KerValue.lean ====
/-
  The kernel's two results as the functions of Answer, its arguments being real numbers.
-/
module

public import proofs.«01_k».proof.Proof.Answer
public import proofs.«01_k».proof.Proof.KerLoss
public import proofs.«01_k».proof.Proof.KerRun

@[expose] public section

set_option maxRecDepth 65536

noncomputable section

namespace Cert.Ker

open Cert.KernelIdeal Cert.KernelIdeal.Gen Idealize.ShloMosaic Idealize.ShloMosaic.TcCoe Cert.Spec

variable (m : (ℓ : Loc nD τ sig) → Buf (Elt Ideal) ℓ) (c : Dev nD)
variable (Q K V : Fin 12 → Fin 2048 → Fin 64 → ℝ) (M MK : Fin 12 → Fin 2 → Fin 64 → ℝ)

/-- The first result at an entry is the attention. -/
theorem att_value
    (hQ : ∀ h i d, headsK (m ((c : Thread nD τ).loc main_arg0)) (ix3 h i d) = (Q h i d : EReal))
    (hK : ∀ h i d, headsK (m ((c : Thread nD τ).loc main_arg1)) (ix3 h i d) = (K h i d : EReal))
    (hV : ∀ h i d, headsK (m ((c : Thread nD τ).loc main_arg2)) (ix3 h i d) = (V h i d : EReal))
    (hMK : ∀ h p d, m ((c : Thread nD τ).loc main_arg4) (ix4 h p 0 d) = (MK h p d : EReal)) (h : Fin 12) (i : Fin 2048) (d : Fin 64) :
    shapeCast S1x12x2048x64 (attArr m c) shapeCasts_S12x2048x64_S1x12x2048x64 (ix4 0 h i d)
      = attention Q K V MK (fun h p d => m ((c : Thread nD τ).loc main_arg5) (ix4 h p 0 d)) h i d := by
  have e : shapeCast S1x12x2048x64 (attArr m c) shapeCasts_S12x2048x64_S1x12x2048x64 (ix4 0 h i d) = attArr m c (ix3 h i d) := by
    pointwise
  rw [e]
  refine (attArr_ix3 m c (pt h) i d).trans ?_
  have hq : ∀ i d, iblk m c 0 (pt h) (ix3 0 i d) = ((Q h i d * (1 / 8) : ℝ) : EReal) := by
    intro i d
    rw [block_q m c (pt h) i d, hQ, EReal.coe_mul]
  unfold attBlock
  rw [out_apply (a := fun i d => Q h i d * (1 / 8)) (k := K h) (v := V h) (mk := MK h) (h0 := hq) (h2 := fun i d => (block_k m c (pt h) i d).trans (hK _ _ _))
    (h4 := fun i d => (block_v m c (pt h) i d).trans (hV _ _ _)) (hw := fun p d => (block_memk m c (pt h) p d).trans (hMK _ _ _)),
    Words.invCount, block_memv, block_memv]
  unfold attention attended
  simp only [dot_scale]

/-- The second result is the loss. -/
theorem loss_value
    (hQ : ∀ h i d, headsK (m ((c : Thread nD τ).loc main_arg0)) (ix3 h i d) = (Q h i d : EReal))
    (hM : ∀ h p d, m ((c : Thread nD τ).loc main_arg3) (ix3 h p d) = (M h p d : EReal)) (j : S_.Idx) :
    Host.reduceAdd (F := Ideal) (φ := .f32) (lossArr m c) (constant S_ .f32 0x00000000#32) reducesTo_S12x1x1_S_d0_1_2 h_S_ j
      = ((loss Q M : ℝ) : EReal) := by
  pointwise
  have hl : ∀ h : Fin 12, lossArr m c (ix3 h 0 0) = (((∑ i, nearSq (unit eps (Q h i)) (M h)) * (13743895 / 216172782113783808) : ℝ) : EReal) := by
    intro h
    refine (lossArr_ix3 m c (pt h)).trans ?_
    have hq : ∀ i d, k0_pay6 (iblk m c 0 (pt h)) (ix2 i d) = ((Q h i d * (1 / 8) : ℝ) : EReal) := by
      intro i d
      pointwise [k0_pay6, k0_pay2]
      rw [block_q m c (pt h) i d, hQ, EReal.coe_mul]
    have hn := norm_apply (v0 := iblk m c 0 (pt h)) (a := fun i d => Q h i d * (1 / 8))
      (h0 := fun i d => by rw [block_q m c (pt h) i d, hQ, EReal.coe_mul])
    unfold lossBlock
    rw [loss_apply _ _ _ (fun i d => Q h i d * (1 / 8)) (M h) hq hn (fun p d => (block_means m c (pt h) p d).trans (hM _ _ _)),
      Words.lossScale, ← EReal.coe_mul]
    have e : (e8 : ℝ) = eps * (1 / 8) := by norm_num
    simp only [e, unit_scale _ _ (by norm_num : (0 : ℝ) < 1 / 8)]
  unfold loss
  rw [Finset.sum_mul, coe_sum]
  exact Finset.sum_congr rfl fun h _ => (Fin.sum_univ_one _).trans ((Fin.sum_univ_one _).trans (hl h))

end Cert.Ker

end
-- ==== Proof.RefSoftmax.lean ====
/-
  The reference's attention weights at an index: the softmax of a row of 2049 scores, and its product with the values.
-/
module

public import proofs.«01_k».proof.Proof.RefFun
public import proofs.«01_k».proof.Proof.Words
public import proofs.«01_k».proof.Proof.Spec
public import Idealize.ShloMosaic.Lib.Pointwise

@[expose] public section

set_option maxRecDepth 16384

noncomputable section

namespace Cert.Ref

open Cert.ReferenceIdeal Cert.ReferenceIdeal.Gen Idealize.ShloMosaic

/-- The largest entry along the last of five axes, at any sizes. -/
theorem rowMax_apply {n0 n1 n2 n3 n4 : Nat} {u : Shape} (x : FVec Ideal ⟨5, ![n0, n1, n2, n3, n4]⟩ .f32)
    (init : FVec Ideal u .f32) (h : (⟨5, ![n0, n1, n2, n3, n4]⟩ : Shape).ReducesTo [4] ⟨4, ![n0, n1, n2, n3]⟩)
    (hu : 0 < u.numel) (a : Fin n0) (b : Fin n1) (c : Fin n2) (d : Fin n3) :
    Host.reduce FloatOps.maximumf x init h hu (ix4 a b c d)
      = Finset.univ.fold max (init (Shape.Idx.first hu)) (fun k : Fin n4 => x (ix5 a b c d k)) :=
  (Host.reduce_eq_fold (max : EReal → EReal → EReal) x init h hu _).trans (h.fold_fiber_r5_a4 _ _ _ _)

/-- `shifted` with the row maxima given as an array `y`. -/
theorem shift_apply (s : FVec Ideal S1x12x2x2048x2049 .f32) (y : FVec Ideal S1x12x2x2048 .f32)
    (h : Fin 12) (c : Fin 2) (r : Fin 2048) (j : Fin 2049) :
    Host.exp (subf s (broadcastInDim S1x12x2x2048x2049 ![0, 1, 2, 3, 4] bcast_S1x12x2x2048x1_S1x12x2x2048x2049_0_1_2_3_4 (broadcastInDim S1x12x2x2048x1 ![0, 1, 2, 3] bcast_S1x12x2x2048_S1x12x2x2048x1_0_1_2_3 (maximumf (broadcastInDim S1x12x2x2048 ![] bcast_S_S1x12x2x2048 (constant S_ .f32 0xFF800000#32)) y)))) (ix5 0 h c r j)
      = Ideal.exp (s (ix5 0 h c r j) - max ⊥ (y (ix4 0 h c r))) := by
  rw [← Words.negInf]
  pointwise

/-- The exponential of a score less its row's largest. -/
theorem shifted_apply (s : FVec Ideal S1x12x2x2048x2049 .f32)
    (h : Fin 12) (c : Fin 2) (r : Fin 2048) (j : Fin 2049) :
    shifted s (ix5 0 h c r j)
      = Ideal.exp (s (ix5 0 h c r j) - max ⊥ (Finset.univ.fold max ⊥ (fun k : Fin 2049 => s (ix5 0 h c r k)))) := by
  refine (shift_apply s _ h c r j).trans ?_
  refine congrArg (fun t => Ideal.exp (s (ix5 0 h c r j) - max ⊥ t)) ?_
  refine (rowMax_apply s _ _ _ 0 h c r).trans ?_
  exact congrArg (fun t => Finset.univ.fold max t (fun k : Fin 2049 => s (ix5 0 h c r k))) Words.negInf

/-- A row of weights: each exponential over the sum of its row. -/
theorem softmax_apply (x : FVec Ideal S1x12x2x2048x2049 .f32)
    (h : Fin 12) (c : Fin 2) (r : Fin 2048) (j : Fin 2049) :
    softmax x (ix5 0 h c r j)
      = Ideal.div (shifted x (ix5 0 h c r j)) (∑ l : Fin 2049, shifted x (ix5 0 h c r l)) := by
  unfold softmax
  generalize shifted x = y
  pointwise

/-- The weights of a row against one column of the values. -/
theorem weighted_apply (x : FVec Ideal S1x12x2x2048x2049 .f32) (v : FVec Ideal S1x12x2x2049x64 .f32)
    (h : Fin 12) (c : Fin 2) (r : Fin 2048) (d : Fin 64) :
    weighted x v (ix5 0 h c r d) = ∑ j : Fin 2049, x (ix5 0 h c r j) * v (ix5 0 h c j d) := by
  pointwise [weighted]

end Cert.Ref

end
-- ==== Proof.RefOrder.lean ====
/-
  The token numbers in the order of falling distance: each cluster's are a permutation of the tokens.
-/
module

public import proofs.«01_k».proof.Proof.RefFun
public import Idealize.ShloMosaic.Lib.SortFacts
public import Idealize.ShloMosaic.Lib.Pointwise

@[expose] public section

set_option maxRecDepth 16384

noncomputable section

namespace Cert.Ref

open Cert.ReferenceIdeal Cert.ReferenceIdeal.Gen Idealize.ShloMosaic

theorem along_last (h : Fin 12) (c : Fin 2) (p k : Fin 2048) :
    Shape.Idx.along (s := S1x12x2x2048) (ix4 0 h c p) 3 k = ix4 0 h c k := by
  funext a
  match a with
  | 0 => rfl
  | 1 => rfl
  | 2 => rfl
  | 3 => exact Function.update_self ..

/-- The token that the order puts at place `p` of cluster `c`. -/
def token (d : FVec Ideal S1x12x2048x2 .f32) (h : Fin 12) (c : Fin 2) (p : Fin 2048) : Fin 2048 :=
  sortedFrom (fun k k' => FloatOps.cmpfTotal .gt (distsT d (ix4 0 h c k)) (distsT d (ix4 0 h c k')) == 1#1) p

/-- Every token has one place in each cluster. -/
theorem token_bijective (d : FVec Ideal S1x12x2048x2 .f32) (h : Fin 12) (c : Fin 2) : Function.Bijective (token d h c) :=
  ⟨sortedFrom_injective _, sortedFrom_surjective _⟩

/-- The order, read at a place, is the number of that place's token. -/
theorem order_apply (d : FVec Ideal S1x12x2048x2 .f32) (h : Fin 12) (c : Fin 2) (p : Fin 2048) :
    order d (ix4 0 h c p) = BitVec.ofNat 32 (token d h c p).val := by
  have key : order d (ix4 0 h c p) = (Host.sort2 S1x12x2x2048 3 (fun l r : Ideal .f32 × BitVec 32 => FloatOps.cmpfTotal .gt l.1 r.1) (distsT d)
      (iotaInDim S1x12x2x2048 32 3)).2 (ix4 0 h c p) := by
    unfold order Host.topK
    pointwise
    rfl
  rw [key]
  refine congrArg (fun k : Fin 2048 => BitVec.ofNat 32 k.val) ((congrFun (along_last h c p _) 3).trans ?_)
  exact congrArg (fun f : Fin 2048 → Fin 2048 → Bool => sortedFrom f p) (funext fun k => funext fun k' =>
    congrArg₂ (fun a b => FloatOps.cmpfTotal .gt (distsT d a) (distsT d b) == 1#1) (along_last h c p k) (along_last h c p k'))

end Cert.Ref

end
-- ==== Proof.RefRows.lean ====
/-
  The rows that the reference takes from the heads: each cluster's rows are the head's rows in the cluster's order.
-/
module

public import proofs.«01_k».proof.Proof.RefFun
public import proofs.«01_k».proof.Proof.RefOrder
public import proofs.«01_k».proof.Proof.Words
public import Idealize.ShloMosaic.Lib.Pointwise
public import Idealize.ShloMosaic.Lib.Affine
public import Idealize.ShloMosaic.Lib.WordCmp
public import Idealize.ShloMosaic.Lib.Routing.OpsPair

@[expose] public section

set_option maxRecDepth 16384

noncomputable section

namespace Cert.Ref

open Cert.ReferenceIdeal Cert.ReferenceIdeal.Gen Idealize.ShloMosaic

/-- The index at which a row's start is read. -/
theorem takeStart_idx (h : Fin 12) (r : Fin 4096) (e : Fin 64) (k : Fin 1) :
    gather_S1x12x2048x64_S12x4096x1_S1x12x4096x64_03_2_1_0_2_2_11164.siIdx (ix4 0 h r e) k = ix3 h r 0 := by
  funext b
  match b with
  | ⟨0, _⟩ => rfl
  | ⟨1, _⟩ => rfl
  | ⟨2, _⟩ => exact Subsingleton.elim (α := Fin 1) _ _

/-- Rows taken from a head at given numbers, each number read signed and clamped to the rows there are. -/
theorem takeRows_apply (x : FVec Ideal S1x12x2048x64 .f32) (idx : IVec S12x4096x1 32) (h : Fin 12) (r : Fin 4096) (e : Fin 64)
    (n : Fin 2048) (hn : (idx (ix3 h r 0)).toInt = n.val) :
    Host.gather gather_S1x12x2048x64_S12x4096x1_S1x12x4096x64_03_2_1_0_2_2_11164 x idx (ix4 0 h r e) = x (ix4 0 h n e) := by
  unfold Host.gather
  refine congrArg x ?_
  funext a
  match a with
  | ⟨0, _⟩ => exact Subsingleton.elim (α := Fin 1) _ _
  | ⟨1, _⟩ =>
    apply Fin.ext
    show 0 + h.val + 0 = h.val
    omega
  | ⟨2, _⟩ =>
    apply Fin.ext
    show min (idx (gather_S1x12x2048x64_S12x4096x1_S1x12x4096x64_03_2_1_0_2_2_11164.siIdx (ix4 0 h r e) (0 : Fin 1))).toInt.toNat (2048 - 1) + 0 + 0 = n.val
    rw [takeStart_idx, hn]
    omega
  | ⟨3, _⟩ =>
    apply Fin.ext
    show 0 + 0 + e.val = e.val
    omega

/-- A token's number, read signed. -/
theorem toInt_num (n : Fin 2048) : (BitVec.ofNat 32 n.val).toInt = n.val :=
  WordCmp.toInt_ofNat_of_lt (by have := n.isLt; omega)

/-- A number that is not negative is not counted from the end. -/
theorem wrap_num (n : Fin 2048) (a : BitVec 32) :
    Scalar.select (IntOp.cmpi .slt (BitVec.ofNat 32 n.val) 0#32) a (BitVec.ofNat 32 n.val) = BitVec.ofNat 32 n.val :=
  Routing.wrap_of_lt _ _ (by rw [BitVec.toNat_ofNat]; have := n.isLt; omega)

/-- The number at which a row is taken is the token's. -/
theorem rowIndex_apply (f : IVec S1x12x4096 32) (h : Fin 12) (r : Fin 4096) (n : Fin 2048) (hn : f (ix3 0 h r) = BitVec.ofNat 32 n.val)
    (z : Fin 1) : rowIndex (column f) (ix3 h r z) = BitVec.ofNat 32 n.val := by
  obtain rfl : z = 0 := Subsingleton.elim _ _
  have e : rowIndex (column f) (ix3 h r 0)
      = Scalar.select (IntOp.cmpi .slt (f (ix3 0 h r)) 0#32) (IntOp.addi (f (ix3 0 h r)) 2048#32) (f (ix3 0 h r)) := by
    pointwise [rowIndex, column]
  rw [e, hn, wrap_num]

/-- A token's number is in range. -/
theorem inRange_apply (o : IVec S12x4096x1 32) (h : Fin 12) (r : Fin 4096) (d : Fin 64) (n : Fin 2048)
    (hn : ∀ z : Fin 1, o (ix3 h r z) = BitVec.ofNat 32 n.val) : inRange o (ix4 0 h r d) = 1#1 := by
  have e : inRange o (ix4 0 h r d) = Finset.univ.fold IntOp.andi (1#1)
      (fun x : Fin 1 => IntOp.andi (IntOp.cmpi .sge (o (ix3 h r x)) 0#32) (IntOp.cmpi .sle (o (ix3 h r x)) 2047#32)) := by
    pointwise [inRange]
  rw [e, Finset.univ_unique, Finset.fold_singleton, hn]
  have h1 : IntOp.cmpi .sge (BitVec.ofNat 32 n.val) 0#32 = 1#1 := by
    rw [IntOp.cmpi_sge, toInt_num]
    exact Int.natCast_nonneg _
  have h2 : IntOp.cmpi .sle (BitVec.ofNat 32 n.val) 2047#32 = 1#1 := by
    rw [IntOp.cmpi_sle, toInt_num]
    have := n.isLt
    show (n.val : Int) ≤ 2047
    omega
  rw [h1, h2]
  rfl

/-- A row taken at a token's number is that token's row. -/
theorem taken_apply (x : FVec Ideal S1x12x2048x64 .f32) (f : IVec S1x12x4096 32) (h : Fin 12) (r : Fin 4096) (d : Fin 64) (n : Fin 2048)
    (hn : f (ix3 0 h r) = BitVec.ofNat 32 n.val) : taken x (column f) (ix4 0 h r d) = x (ix4 0 h n d) := by
  have hi := rowIndex_apply f h r n hn
  have hr := inRange_apply (rowIndex (column f)) h r d n hi
  have hg := takeRows_apply x (rowIndex (column f)) h r d n ((congrArg BitVec.toInt (hi 0)).trans (toInt_num n))
  unfold taken
  rw [show ∀ (c : IVec S1x12x4096x64 1) (a b : FVec Ideal S1x12x4096x64 .f32) i, select c a b i = Scalar.select (c i) (a i) (b i) from fun _ _ _ _ => rfl,
    hr, hg]
  rfl

/-- Where place `p` of cluster `c` stands among the places of both clusters. -/
def spot (c : Fin 2) (p : Fin 2048) : Fin 4096 := ⟨c.val * 2048 + p.val, by have := c.isLt; have := p.isLt; omega⟩

/-- The token numbers of both clusters at a place. -/
theorem flat_spot (o : IVec S1x12x2x2048 32) (h : Fin 12) (c : Fin 2) (p : Fin 2048) : flat o (ix3 0 h (spot c p)) = o (ix4 0 h c p) := by
  have e : ∀ r : Fin 4096, flat o (ix3 0 h r) = o (ix4 0 h ⟨r.val / 2048, by omega⟩ ⟨r.val % 2048, by omega⟩) := fun r => by
    pointwise [flat]
  rw [e]
  have h1 : (⟨(spot c p).val / 2048, by omega⟩ : Fin 2) = c := Fin.ext (by show (c.val * 2048 + p.val) / 2048 = c.val; have := p.isLt; omega)
  have h2 : (⟨(spot c p).val % 2048, by omega⟩ : Fin 2048) = p := Fin.ext (by show (c.val * 2048 + p.val) % 2048 = p.val; have := p.isLt; omega)
  rw [h1, h2]

/-- The rows of cluster `c`: place `p` holds the row of the token that stands there. -/
theorem clusterRow (x : FVec Ideal S1x12x2048x64 .f32) (o : IVec S1x12x2x2048 32) (h : Fin 12) (c : Fin 2) (p : Fin 2048) (d : Fin 64)
    (n : Fin 2048) (hn : o (ix4 0 h c p) = BitVec.ofNat 32 n.val) :
    perCluster (taken x (column (flat o))) (ix5 0 h c p d) = x (ix4 0 h n d) := by
  have e : ∀ y : FVec Ideal S1x12x4096x64 .f32, perCluster y (ix5 0 h c p d) = y (ix4 0 h (spot c p) d) := fun y => by
    pointwise [perCluster]
    rfl
  rw [e]
  exact taken_apply x (flat o) h (spot c p) d n ((flat_spot o h c p).trans hn)

end Cert.Ref

end
-- ==== Proof.RefCluster.lean ====
/-
  The reference's attention in one cluster: at each place, the attention of the token that stands there over all tokens.
-/
module

public import proofs.«01_k».proof.Proof.RefSoftmax
public import proofs.«01_k».proof.Proof.RefRows
public import proofs.«01_k».proof.Proof.Answer

@[expose] public section

set_option maxRecDepth 16384

noncomputable section

namespace Cert.Ref

open Cert.ReferenceIdeal Cert.ReferenceIdeal.Gen Idealize.ShloMosaic

open Cert.Spec (dot attend sum_coe_mul attend_softmax attend_perm)

/-- Place 0 of a cluster's rows with memory is the memory row. -/
theorem withMem_zero (me : FVec Ideal S12x2x1x64 .f32) (x : FVec Ideal S1x12x2x2048x64 .f32) (h : Fin 12) (c : Fin 2) (d : Fin 64) :
    withMem me x (ix5 0 h c 0 d) = me (ix4 h c 0 d) := by
  pointwise [withMem, memBefore]

/-- Every other place is the place before it of the cluster's rows. -/
theorem withMem_succ (me : FVec Ideal S12x2x1x64 .f32) (x : FVec Ideal S1x12x2x2048x64 .f32) (h : Fin 12) (c : Fin 2) (p : Fin 2048) (d : Fin 64) :
    withMem me x (ix5 0 h c p.succ d) = x (ix5 0 h c p d) := by
  pointwise [withMem, memBefore]
  simp

/-- A score: an eighth of the product of a query row with a key row. -/
theorem scores_apply (x : FVec Ideal S1x12x2x2048x64 .f32) (k : FVec Ideal S1x12x2x2049x64 .f32) (h : Fin 12) (c : Fin 2)
    (p : Fin 2048) (j : Fin 2049) :
    scores x k (ix5 0 h c p j) = (∑ d : Fin 64, x (ix5 0 h c p d) * k (ix5 0 h c j d)) * ((1 / 8 : ℝ) : EReal) := by
  rw [← Words.eighth]
  pointwise [scores]

/-- No token's number is the memory row's mark. -/
theorem sameToken_zero (o : IVec S1x12x2x2048 32) (h : Fin 12) (c : Fin 2) (p n : Fin 2048)
    (hn : o (ix4 0 h c p) = BitVec.ofNat 32 n.val) : sameToken o (ix5 0 h c p 0) = 0#1 := by
  have e : sameToken o (ix5 0 h c p 0) = IntOp.cmpi .eq (o (ix4 0 h c p)) 4294967295#32 := by
    pointwise [sameToken, markBefore]
  rw [e, hn]
  have hne : BitVec.ofNat 32 n.val ≠ 4294967295#32 := fun q => by
    have := congrArg BitVec.toNat q
    rw [BitVec.toNat_ofNat] at this
    have hlt := n.isLt
    have : n.val % 2 ^ 32 = 4294967295 := this
    omega
  show BitVec.ofBool (BitVec.ofNat 32 n.val == 4294967295#32) = 0#1
  rw [beq_eq_false_iff_ne.2 hne]
  rfl

/-- Two places hold the same number exactly when they are one place. -/
theorem sameToken_succ (o : IVec S1x12x2x2048 32) (h : Fin 12) (c : Fin 2) (t : Fin 2048 → Fin 2048) (ht : Function.Injective t)
    (ho : ∀ p, o (ix4 0 h c p) = BitVec.ofNat 32 (t p).val) (p j : Fin 2048) :
    sameToken o (ix5 0 h c p j.succ) = if j = p then 1#1 else 0#1 := by
  have e : sameToken o (ix5 0 h c p j.succ) = IntOp.cmpi .eq (o (ix4 0 h c p)) (o (ix4 0 h c j)) := by
    pointwise [sameToken, markBefore]
    simp
  rw [e, ho, ho]
  have hne : BitVec.ofNat 32 (t p).val = BitVec.ofNat 32 (t j).val ↔ j = p := by
    constructor
    · intro q
      have := congrArg BitVec.toInt q
      rw [toInt_num, toInt_num] at this
      exact (ht (Fin.ext (by exact_mod_cast this))).symm
    · rintro rfl
      rfl
  by_cases q : j = p
  · subst q
    simp [IntOp.cmpi]
  · have := mt hne.1 q
    rw [if_neg q]
    show BitVec.ofBool (BitVec.ofNat 32 (t p).val == BitVec.ofNat 32 (t j).val) = 0#1
    rw [beq_eq_false_iff_ne.2 this]
    rfl

/-- A masked score: −∞ where a token meets itself. -/
theorem masked_apply (o : IVec S1x12x2x2048 32) (s : FVec Ideal S1x12x2x2048x2049 .f32) (h : Fin 12) (c : Fin 2) (p : Fin 2048) (j : Fin 2049) :
    masked o s (ix5 0 h c p j) = if sameToken o (ix5 0 h c p j) = 1#1 then ⊥ else s (ix5 0 h c p j) := by
  rw [← Words.negInf]
  rfl

/-- One cluster's attention at a place is the attention of the token that stands there. -/
theorem cluster_apply (o : IVec S1x12x2x2048 32) (xq xk xv : FVec Ideal S1x12x2048x64 .f32) (mk mv : FVec Ideal S12x2x1x64 .f32)
    (Q K V : Fin 12 → Fin 2048 → Fin 64 → ℝ) (MK : Fin 12 → Fin 2 → Fin 64 → ℝ)
    (hQ : ∀ h i d, xq (ix4 0 h i d) = ((Q h i d : ℝ) : EReal)) (hK : ∀ h i d, xk (ix4 0 h i d) = ((K h i d : ℝ) : EReal))
    (hV : ∀ h i d, xv (ix4 0 h i d) = ((V h i d : ℝ) : EReal)) (hMK : ∀ h p d, mk (ix4 h p 0 d) = ((MK h p d : ℝ) : EReal))
    (h : Fin 12) (c : Fin 2) (t : Fin 2048 → Fin 2048) (ht : Function.Bijective t)
    (ho : ∀ p, o (ix4 0 h c p) = BitVec.ofNat 32 (t p).val) (p : Fin 2048) (d : Fin 64) :
    weighted (softmax (masked o (scores (perCluster (taken xq (column (flat o)))) (withMem mk (perCluster (taken xk (column (flat o))))))))
        (withMem mv (perCluster (taken xv (column (flat o))))) (ix5 0 h c p d)
      = Spec.attended Q K V MK (fun h p d => mv (ix4 h p 0 d)) h c (t p) d := by
  have hq : ∀ p d, perCluster (taken xq (column (flat o))) (ix5 0 h c p d) = ((Q h (t p) d : ℝ) : EReal) := fun p d =>
    (clusterRow xq o h c p d (t p) (ho p)).trans (hQ _ _ _)
  have hk : ∀ p d, perCluster (taken xk (column (flat o))) (ix5 0 h c p d) = ((K h (t p) d : ℝ) : EReal) := fun p d =>
    (clusterRow xk o h c p d (t p) (ho p)).trans (hK _ _ _)
  have hv : ∀ p d, perCluster (taken xv (column (flat o))) (ix5 0 h c p d) = ((V h (t p) d : ℝ) : EReal) := fun p d =>
    (clusterRow xv o h c p d (t p) (ho p)).trans (hV _ _ _)
  generalize perCluster (taken xq (column (flat o))) = yq at hq ⊢
  generalize perCluster (taken xk (column (flat o))) = yk at hk ⊢
  generalize perCluster (taken xv (column (flat o))) = yv at hv ⊢
  generalize hs : masked o (scores yq (withMem mk yk)) = s
  have hs0 : s (ix5 0 h c p 0) = ((dot (Q h (t p)) (MK h c) * (1 / 8) : ℝ) : EReal) := by
    rw [← hs, masked_apply, sameToken_zero o h c p (t p) (ho p), if_neg (by decide), scores_apply,
      sum_coe_mul _ _ (Q h (t p)) (MK h c) (fun d => hq p d) (fun d => (withMem_zero mk yk h c d).trans (hMK h c d)), ← EReal.coe_mul]
  have hsj : ∀ j : Fin 2048, s (ix5 0 h c p j.succ) = if j = p then ⊥ else ((dot (Q h (t p)) (K h (t j)) * (1 / 8) : ℝ) : EReal) := fun j => by
    rw [← hs, masked_apply, sameToken_succ o h c t ht.1 ho p j, scores_apply,
      sum_coe_mul _ _ (Q h (t p)) (K h (t j)) (fun d => hq p d) (fun d => (withMem_succ mk yk h c j d).trans (hk j d)), ← EReal.coe_mul]
    by_cases q : j = p
    · rw [if_pos q, if_pos q, if_pos rfl]
    · rw [if_neg q, if_neg q, if_neg (by decide)]
  have key := attend_softmax (fun j => dot (Q h (t p)) (K h (t j)) * (1 / 8)) (fun j => V h (t j) d) (dot (Q h (t p)) (MK h c) * (1 / 8))
    (mv (ix4 h c 0 d)) p (fun j => s (ix5 0 h c p j)) (fun j => withMem mv yv (ix5 0 h c j d)) hs0 hsj (withMem_zero mv yv h c d)
    (fun j => (withMem_succ mv yv h c j d).trans (hv j d))
  have perm := attend_perm t ht (fun j => dot (Q h (t p)) (K h j) * (1 / 8)) (fun j => V h j d) (dot (Q h (t p)) (MK h c) * (1 / 8))
    (mv (ix4 h c 0 d)) p
  refine (weighted_apply _ _ h c p d).trans (Eq.trans ?_ (key.trans perm))
  refine Finset.sum_congr rfl fun j _ => congrArg (fun z => z * withMem mv yv (ix5 0 h c j d)) ?_
  rw [softmax_apply, shifted_apply, zero_add]
  exact congrArg (fun z => Ideal.div _ z) (Finset.sum_congr rfl fun l _ => shifted_apply s h c p l)

end Cert.Ref

end
-- ==== Proof.RefScatter.lean ====
/-
  The reference's sums over clusters: each token receives one row from each of the two clusters.
-/
module

public import proofs.«01_k».proof.Proof.RefRows
public import proofs.«01_k».proof.Proof.Words
public import Idealize.ShloMosaic.Lib.Routing.OpsPair
public import Idealize.ShloMosaic.Lib.IdealHost

@[expose] public section

set_option maxRecDepth 16384

noncomputable section

namespace Cert.Ref

open Cert.ReferenceIdeal Cert.ReferenceIdeal.Gen Idealize.ShloMosaic

/-- The index at which a component of a row's place is read. -/
theorem placeStart_idx (h : Fin 12) (r : Fin 4096) (e : Fin 64) (k : Fin 3) :
    scatter_S1x12x2048x64_S1x12x4096x3_S1x12x4096x64_3_012_012_3.siIdx (ix4 0 h r e) k = ix4 0 h r k := by
  funext b
  match b with
  | ⟨0, _⟩ => rfl
  | ⟨1, _⟩ => rfl
  | ⟨2, _⟩ => rfl
  | ⟨3, _⟩ => rfl

/-- A row's entry lands where its place, batch, head and token, and its own feature say. -/
theorem lands_iff (p : IVec S1x12x4096x3 32) (h h' : Fin 12) (r : Fin 4096) (e e' : Fin 64) (i : Fin 2048) :
    scatter_S1x12x2048x64_S1x12x4096x3_S1x12x4096x64_3_012_012_3.resultIdx? (ix4 0 h r e) p = some (ix4 0 h' i e')
      ↔ (p (ix4 0 h r 0)).toInt = 0 ∧ (p (ix4 0 h r 1)).toInt = h'.val ∧ (p (ix4 0 h r 2)).toInt = i.val ∧ e = e' := by
  have e0 : scatter_S1x12x2048x64_S1x12x4096x3_S1x12x4096x64_3_012_012_3.start (ix4 0 h r e) p 0
      + (scatter_S1x12x2048x64_S1x12x4096x3_S1x12x4096x64_3_012_012_3.window (ix4 0 h r e) 0 : Int) = (p (ix4 0 h r 0)).toInt := by
    rw [← placeStart_idx h r e 0]
    exact Int.add_zero _
  have e1 : scatter_S1x12x2048x64_S1x12x4096x3_S1x12x4096x64_3_012_012_3.start (ix4 0 h r e) p 1
      + (scatter_S1x12x2048x64_S1x12x4096x3_S1x12x4096x64_3_012_012_3.window (ix4 0 h r e) 1 : Int) = (p (ix4 0 h r 1)).toInt := by
    rw [← placeStart_idx h r e 1]
    exact Int.add_zero _
  have e2 : scatter_S1x12x2048x64_S1x12x4096x3_S1x12x4096x64_3_012_012_3.start (ix4 0 h r e) p 2
      + (scatter_S1x12x2048x64_S1x12x4096x3_S1x12x4096x64_3_012_012_3.window (ix4 0 h r e) 2 : Int) = (p (ix4 0 h r 2)).toInt := by
    rw [← placeStart_idx h r e 2]
    exact Int.add_zero _
  have e3 : scatter_S1x12x2048x64_S1x12x4096x3_S1x12x4096x64_3_012_012_3.start (ix4 0 h r e) p 3
      + (scatter_S1x12x2048x64_S1x12x4096x3_S1x12x4096x64_3_012_012_3.window (ix4 0 h r e) 3 : Int) = (e.val : Int) :=
    Int.zero_add _
  rw [Routing.resultIdx?_eq_some]
  constructor
  · intro q
    exact ⟨e0.symm.trans (q 0), e1.symm.trans (q 1), e2.symm.trans (q 2),
      Fin.ext (by exact_mod_cast e3.symm.trans (q 3))⟩
  · rintro ⟨q0, q1, q2, rfl⟩ a
    match a with
    | ⟨0, _⟩ => exact e0.trans q0
    | ⟨1, _⟩ => exact e1.trans q1
    | ⟨2, _⟩ => exact e2.trans q2
    | ⟨3, _⟩ => exact e3

/-- A head's number, read signed. -/
theorem toInt_head (h : Fin 12) : (BitVec.ofNat 32 h.val).toInt = h.val :=
  WordCmp.toInt_ofNat_of_lt (by have := h.isLt; omega)

/-- The place of a row: batch 0, its head, its token. -/
theorem places_apply (f : IVec S1x12x4096 32) (h : Fin 12) (r : Fin 4096) (n : Fin 2048) (hn : f (ix3 0 h r) = BitVec.ofNat 32 n.val) :
    (places (batchIndex zeroColumn) (headIndex headColumn) (tokenIndex f) (ix4 0 h r 0)).toInt = 0
      ∧ (places (batchIndex zeroColumn) (headIndex headColumn) (tokenIndex f) (ix4 0 h r 1)).toInt = h.val
      ∧ (places (batchIndex zeroColumn) (headIndex headColumn) (tokenIndex f) (ix4 0 h r 2)).toInt = n.val := by
  refine ⟨?_, ?_, ?_⟩
  · pointwise [places, placesOf, batchIndex, zeroColumn]
    rfl
  · have e : places (batchIndex zeroColumn) (headIndex headColumn) (tokenIndex f) (ix4 0 h r 1)
        = Scalar.select (IntOp.cmpi .slt (BitVec.ofNat 32 h.val) 0#32) (IntOp.addi (BitVec.ofNat 32 h.val) 12#32) (BitVec.ofNat 32 h.val) := by
      pointwise [places, placesOf, headIndex, headColumn]
    rw [e, Routing.wrap_of_lt _ _ (by rw [BitVec.toNat_ofNat]; have := h.isLt; omega), toInt_head]
  · have e : places (batchIndex zeroColumn) (headIndex headColumn) (tokenIndex f) (ix4 0 h r 2)
        = Scalar.select (IntOp.cmpi .slt (f (ix3 0 h r)) 0#32) (IntOp.addi (f (ix3 0 h r)) 2048#32) (f (ix3 0 h r)) := by
      pointwise [places, placesOf, tokenIndex]
    rw [e, hn, wrap_num, toInt_num]

/-- Every place of both clusters is a place of one. -/
theorem exists_spot (r : Fin 4096) : ∃ (c : Fin 2) (p : Fin 2048), r = spot c p :=
  ⟨⟨r.val / 2048, by omega⟩, ⟨r.val % 2048, by omega⟩, Fin.ext (by show r.val = r.val / 2048 * 2048 + r.val % 2048; omega)⟩

theorem spot_cluster (c c' : Fin 2) (p p' : Fin 2048) (e : spot c p = spot c' p') : c = c' := by
  have := congrArg Fin.val e
  have hp := p.isLt
  have hp' := p'.isLt
  exact Fin.ext (by have : c.val * 2048 + p.val = c'.val * 2048 + p'.val := this; omega)

/-- The sum of the rows that land at a token: one row of either cluster, from the token's place there. -/
theorem landing_sum (o : IVec S1x12x2x2048 32) (t : Fin 12 → Fin 2 → Fin 2048 → Fin 2048)
    (ht : ∀ h c, Function.Injective (t h c)) (ho : ∀ h c p, o (ix4 0 h c p) = BitVec.ofNat 32 (t h c p).val)
    (u : S1x12x4096x64.Idx → EReal) (h : Fin 12) (i : Fin 2048) (e : Fin 64) (p : Fin 2 → Fin 2048) (hp : ∀ c, t h c (p c) = i) :
    ∑ j ∈ Finset.univ.filter (fun j => scatter_S1x12x2048x64_S1x12x4096x3_S1x12x4096x64_3_012_012_3.resultIdx? j
        (places (batchIndex zeroColumn) (headIndex headColumn) (tokenIndex (flat o))) = some (ix4 0 h i e)), u j
      = u (ix4 0 h (spot 0 (p 0)) e) + u (ix4 0 h (spot 1 (p 1)) e) := by
  refine (Finset.sum_filter_eq_sum_of_fiber _ (fun c : Fin 2 => (ix4 0 h (spot c (p c)) e : S1x12x4096x64.Idx)) ?_ ?_ u).trans
    (Fin.sum_univ_two _)
  · intro c c' q
    exact spot_cluster c c' (p c) (p c') (congrFun q 2)
  · intro j
    obtain ⟨z, h', r, e', rfl⟩ : ∃ (z : Fin 1) (h' : Fin 12) (r : Fin 4096) (e' : Fin 64), j = ix4 z h' r e' := ⟨_, _, _, _, eq_ix4 j⟩
    obtain rfl : z = 0 := Subsingleton.elim _ _
    obtain ⟨c, p', rfl⟩ := exists_spot r
    have hf : flat o (ix3 0 h' (spot c p')) = BitVec.ofNat 32 (t h' c p').val := (flat_spot o h' c p').trans (ho h' c p')
    obtain ⟨a0, a1, a2⟩ := places_apply (flat o) h' (spot c p') (t h' c p') hf
    rw [lands_iff, a0, a1, a2]
    constructor
    · rintro ⟨-, q1, q2, rfl⟩
      obtain rfl : h' = h := Fin.ext (by exact_mod_cast q1)
      have hi : t h' c p' = i := Fin.ext (by exact_mod_cast q2)
      have : p c = p' := ht h' c ((hp c).trans hi.symm)
      exact ⟨c, by rw [this]⟩
    · rintro ⟨c', q⟩
      have q1 : h = h' := congrFun q 1
      have q2 : spot c' (p c') = spot c p' := congrFun q 2
      have q3 : e = e' := congrFun q 3
      subst q1 q3
      have qc := spot_cluster _ _ _ _ q2
      subst qc
      have qp : p c' = p' := Fin.ext (by
        have : c'.val * 2048 + (p c').val = c'.val * 2048 + p'.val := congrArg Fin.val q2
        omega)
      exact ⟨rfl, rfl, by rw [← qp, hp c'], rfl⟩

/-- The array of zeros at an index. -/
theorem zeros_apply (i : S1x12x2048x64.Idx) : zeros (F := Ideal) i = (0 : EReal) := by
  show Ideal.ofBits FTy.f32 0x00000000#32 = 0
  exact Ideal.ofBits_zero_f32

/-- The sums: one row of either cluster. -/
theorem numer_apply (o : IVec S1x12x2x2048 32) (t : Fin 12 → Fin 2 → Fin 2048 → Fin 2048)
    (ht : ∀ h c, Function.Injective (t h c)) (ho : ∀ h c p, o (ix4 0 h c p) = BitVec.ofNat 32 (t h c p).val)
    (u : FVec Ideal S1x12x4096x64 .f32) (h : Fin 12) (i : Fin 2048) (e : Fin 64) (p : Fin 2 → Fin 2048) (hp : ∀ c, t h c (p c) = i) :
    numer zeros (places (batchIndex zeroColumn) (headIndex headColumn) (tokenIndex (flat o))) u (ix4 0 h i e)
      = u (ix4 0 h (spot 0 (p 0)) e) + u (ix4 0 h (spot 1 (p 1)) e) := by
  rw [← landing_sum o t ht ho u h i e p hp]
  refine Eq.trans ?_ (zero_add _)
  rw [← zeros_apply (ix4 0 h i e)]
  rfl

/-- The counts: two. -/
theorem denom_apply (o : IVec S1x12x2x2048 32) (t : Fin 12 → Fin 2 → Fin 2048 → Fin 2048)
    (ht : ∀ h c, Function.Injective (t h c)) (ho : ∀ h c p, o (ix4 0 h c p) = BitVec.ofNat 32 (t h c p).val)
    (h : Fin 12) (i : Fin 2048) (e : Fin 64) (p : Fin 2 → Fin 2048) (hp : ∀ c, t h c (p c) = i) :
    denom (F := Ideal) zeros (places (batchIndex zeroColumn) (headIndex headColumn) (tokenIndex (flat o))) (ix4 0 h i e) = ((2 : ℝ) : EReal) := by
  have key := numer_apply o t ht ho (broadcastInDim S1x12x4096x64 ![] bcast_S_S1x12x4096x64 (constant S_ .f32 0x3F800000#32)) h i e p hp
  refine Eq.trans key ?_
  show Ideal.ofBits FTy.f32 0x3F800000#32 + Ideal.ofBits FTy.f32 0x3F800000#32 = _
  rw [Ideal.ofBits_one_f32, ← EReal.coe_one, ← EReal.coe_add]
  norm_num

/-- The mean: the sum over two plus `1e-5`. -/
theorem meanOf_apply (a b : FVec Ideal S1x12x2048x64 .f32) (h : Fin 12) (i : Fin 2048) (e : Fin 64)
    (hb : b (ix4 0 h i e) = ((2 : ℝ) : EReal)) :
    meanOf a b (ix4 0 h i e) = a (ix4 0 h i e) * ((274877906944 / 549758562667 : ℝ) : EReal) := by
  have e1 : meanOf a b (ix4 0 h i e) = Ideal.div (a (ix4 0 h i e)) (b (ix4 0 h i e) + Ideal.ofBits .f32 0x3727C5AC#32) := by
    pointwise [meanOf]
  rw [e1, hb, Words.countEps, ← EReal.coe_add, Ideal.div_coe (by norm_num)]
  norm_num

end Cert.Ref

end
-- ==== Proof.RefAtt.lean ====
/-
  The reference's first result as the function of Answer, its arguments being real numbers.
-/
module

public import proofs.«01_k».proof.Proof.RefCluster
public import proofs.«01_k».proof.Proof.RefScatter

@[expose] public section

set_option maxRecDepth 16384

noncomputable section

namespace Cert.Ref

open Cert.ReferenceIdeal Cert.ReferenceIdeal.Gen Idealize.ShloMosaic

/-- The attention of both clusters in a row, at a cluster's place. -/
theorem outFlat_spot (a : FVec Ideal S1x12x2x2048x2049 .f32) (v : FVec Ideal S1x12x2x2049x64 .f32) (h : Fin 12) (c : Fin 2) (p : Fin 2048) (d : Fin 64) :
    outFlat a v (ix4 0 h (spot c p) d) = weighted a v (ix5 0 h c p d) := by
  unfold outFlat
  generalize weighted a v = w
  have e : ∀ r : Fin 4096, shapeCast S1x12x4096x64 w shapeCasts_S1x12x2x2048x64_S1x12x4096x64 (ix4 0 h r d)
      = w (ix5 0 h ⟨r.val / 2048, by omega⟩ ⟨r.val % 2048, by omega⟩ d) := fun r => by
    pointwise
  rw [e]
  have h1 : (⟨(spot c p).val / 2048, by omega⟩ : Fin 2) = c := Fin.ext (by show (c.val * 2048 + p.val) / 2048 = c.val; have := p.isLt; omega)
  have h2 : (⟨(spot c p).val % 2048, by omega⟩ : Fin 2048) = p := Fin.ext (by show (c.val * 2048 + p.val) % 2048 = p.val; have := p.isLt; omega)
  rw [h1, h2]

/-- The first result at an entry is the attention. -/
theorem result_value (q k v : FVec Ideal S1x2048x768 .f32) (means : FVec Ideal S12x2x64 .f32) (mk mv : FVec Ideal S12x2x1x64 .f32)
    (Q K V : Fin 12 → Fin 2048 → Fin 64 → ℝ) (MK : Fin 12 → Fin 2 → Fin 64 → ℝ)
    (hQ : ∀ h i d, heads q (ix4 0 h i d) = ((Q h i d : ℝ) : EReal)) (hK : ∀ h i d, heads k (ix4 0 h i d) = ((K h i d : ℝ) : EReal))
    (hV : ∀ h i d, heads v (ix4 0 h i d) = ((V h i d : ℝ) : EReal)) (hMK : ∀ h p d, mk (ix4 h p 0 d) = ((MK h p d : ℝ) : EReal))
    (h : Fin 12) (i : Fin 2048) (d : Fin 64) :
    result q k v means mk mv (ix4 0 h i d) = Spec.attention Q K V MK (fun h p d => mv (ix4 h p 0 d)) h i d := by
  choose p hp using fun c : Fin 2 => (token_bijective (dist q means) h c).2 i
  have ht : ∀ h c, Function.Injective (token (dist q means) h c) := fun h c => (token_bijective _ h c).1
  have ho : ∀ h c p, ord q means (ix4 0 h c p) = BitVec.ofNat 32 (token (dist q means) h c p).val := fun h c p => order_apply _ h c p
  have hc := denom_apply (ord q means) (token (dist q means)) ht ho h i d p hp
  have hn := numer_apply (ord q means) (token (dist q means)) ht ho (attended q k v means mk mv) h i d p hp
  have ha : ∀ c : Fin 2, attended q k v means mk mv (ix4 0 h (spot c (p c)) d)
      = Spec.attended Q K V MK (fun h p d => mv (ix4 h p 0 d)) h c i d := fun c => by
    refine (outFlat_spot _ _ h c (p c) d).trans ?_
    refine (cluster_apply (ord q means) (heads q) (heads k) (heads v) mk mv Q K V MK hQ hK hV hMK h c (token (dist q means) h c)
      (token_bijective _ h c) (ho h c) (p c) d).trans ?_
    rw [hp c]
  refine (meanOf_apply (total q k v means mk mv) (counts q means) h i d hc).trans ?_
  refine congrArg (fun z : EReal => z * ((274877906944 / 549758562667 : ℝ) : EReal)) (hn.trans ?_)
  rw [ha, ha]

end Cert.Ref

end
-- ==== Proof.RefDist.lean ====
/-
  The reference's unit rows and their distances from the cluster means.
-/
module

public import proofs.«01_k».proof.Proof.RefFun
public import proofs.«01_k».proof.Proof.Words
public import proofs.«01_k».proof.Proof.Answer
public import Idealize.ShloMosaic.Lib.Pointwise

@[expose] public section

set_option maxRecDepth 16384

noncomputable section

namespace Cert.Ref

open Cert.ReferenceIdeal Cert.ReferenceIdeal.Gen Idealize.ShloMosaic

open Cert.Spec (dot unit eps sqDist sum_coe_mul)

/-- A row over its norm plus the tolerance is the unit row. -/
theorem normed_apply (x : FVec Ideal S1x12x2048x64 .f32) (Q : Fin 12 → Fin 2048 → Fin 64 → ℝ)
    (hQ : ∀ h i d, x (ix4 0 h i d) = ((Q h i d : ℝ) : EReal)) (h : Fin 12) (i : Fin 2048) (d : Fin 64) :
    normed x (ix4 0 h i d) = ((unit eps (Q h i) d : ℝ) : EReal) := by
  have e : normed x (ix4 0 h i d) = Ideal.div (x (ix4 0 h i d))
      (Ideal.sqrt (∑ e : Fin 64, x (ix4 0 h i e) * x (ix4 0 h i e)) + Ideal.ofBits .f32 0x358637BD#32) := by
    pointwise [normed, scaleOf]
  have hpos : 0 < Real.sqrt (dot (Q h i) (Q h i)) + eps := add_pos_of_nonneg_of_pos (Real.sqrt_nonneg _) (by norm_num)
  rw [e, sum_coe_mul _ _ (Q h i) (Q h i) (hQ h i) (hQ h i), Ideal.sqrt_coe, if_neg (not_lt.2 (Spec.dot_self_nonneg _)), Words.eps,
    ← EReal.coe_add, Ideal.div_coe hpos.ne', hQ, ← EReal.coe_mul]
  exact congrArg (fun z : ℝ => (z : EReal)) (div_eq_mul_one_div _ _).symm

/-- The distance of a row from a mean. -/
theorem dists_apply (y : FVec Ideal S1x12x2048x64 .f32) (means : FVec Ideal S12x2x64 .f32) (U : Fin 12 → Fin 2048 → Fin 64 → ℝ)
    (M : Fin 12 → Fin 2 → Fin 64 → ℝ) (hU : ∀ h i d, y (ix4 0 h i d) = ((U h i d : ℝ) : EReal))
    (hM : ∀ h p d, means (ix3 h p d) = ((M h p d : ℝ) : EReal)) (h : Fin 12) (i : Fin 2048) (c : Fin 2) :
    dists y means (ix4 0 h i c) = ((Real.sqrt (sqDist (U h i) (M h c)) : ℝ) : EReal) := by
  have e : dists y means (ix4 0 h i c) = Ideal.sqrt (max ((∑ d : Fin 64, y (ix4 0 h i d) * y (ix4 0 h i d))
      + (∑ d : Fin 64, means (ix3 h c d) * means (ix3 h c d))
      - Ideal.ofBits .f32 0x40000000#32 * (∑ d : Fin 64, means (ix3 h c d) * y (ix4 0 h i d))) 0) := by
    pointwise [dists, rowSquares, meanSquares, products]
  have hs : dot (U h i) (U h i) + dot (M h c) (M h c) - 2 * dot (M h c) (U h i) = sqDist (U h i) (M h c) := by
    rw [Spec.dot_comm (M h c) (U h i), Spec.sqDist_eq]
  rw [e, sum_coe_mul _ _ (U h i) (U h i) (hU h i) (hU h i), sum_coe_mul _ _ (M h c) (M h c) (hM h c) (hM h c),
    sum_coe_mul _ _ (M h c) (U h i) (hM h c) (hU h i), Words.two, ← EReal.coe_add, ← EReal.coe_mul, ← EReal.coe_sub, hs,
    max_eq_left (EReal.coe_nonneg.2 (Spec.sqDist_nonneg _ _)), Ideal.sqrt_coe, if_neg (not_lt.2 (Spec.sqDist_nonneg _ _))]

end Cert.Ref

end
-- ==== Proof.RefNear.lean ====
/-
  The nearer of two cluster means: the index that the reference finds as the position of the least distance.
-/
module

public import proofs.«01_k».proof.Proof.RefFun
public import proofs.«01_k».proof.Proof.Words
public import Idealize.ShloMosaic.Lib.Pointwise

@[expose] public section

set_option maxRecDepth 16384

noncomputable section

namespace Cert.Ref

open Cert.ReferenceIdeal Cert.ReferenceIdeal.Gen Idealize.ShloMosaic

/-- Of a list of all the places, those whose index is one of two are these two, in one of the two orders. -/
theorem filter_two {ι β : Type} {N : Nat} (σ : Fin N ≃ ι) (P : ι → Prop) [DecidablePred P] (g : Fin 2 → ι)
    (hg : Function.Injective g) (hP : ∀ i, P i ↔ ∃ k, g k = i) (v : ι → β) :
    ((List.finRange N).filter fun n => P (σ n)).map (fun n => v (σ n)) = [v (g 0), v (g 1)]
      ∨ ((List.finRange N).filter fun n => P (σ n)).map (fun n => v (σ n)) = [v (g 1), v (g 0)] := by
  have hp : ((List.finRange N).filter fun n => P (σ n)).Perm [σ.symm (g 0), σ.symm (g 1)] := by
    refine (List.perm_ext_iff_of_nodup ((List.nodup_finRange N).filter _) ?_).2 ?_
    · refine List.nodup_cons.2 ⟨?_, List.nodup_singleton _⟩
      rw [List.mem_singleton, σ.symm.injective.eq_iff, hg.eq_iff]
      decide
    · intro n
      rw [List.mem_filter, decide_eq_true_eq, hP, Fin.exists_fin_two, List.mem_cons, List.mem_singleton, Equiv.eq_symm_apply,
        Equiv.eq_symm_apply]
      simp only [List.mem_finRange, true_and, eq_comm]
  generalize (List.finRange N).filter (fun n => P (σ n)) = l at hp ⊢
  obtain ⟨a, b, rfl⟩ := List.length_eq_two.1 hp.length_eq
  have ha : a = σ.symm (g 0) ∨ a = σ.symm (g 1) := by
    have := hp.mem_iff (a := a)
    simpa using this
  have hb : b = σ.symm (g 0) ∨ b = σ.symm (g 1) := by
    have := hp.mem_iff (a := b)
    simpa using this
  have hab : a ≠ b := by
    have := hp.nodup_iff.2 (List.nodup_cons.2 ⟨by
      rw [List.mem_singleton, σ.symm.injective.eq_iff, hg.eq_iff]
      decide, List.nodup_singleton _⟩)
    simpa using this
  rcases ha with rfl | rfl <;> rcases hb with rfl | rfl
  · exact absurd rfl hab
  · left; simp
  · right; simp
  · exact absurd rfl hab

/-- The index of the lesser of two real numbers, the first of two equal ones, in either order of the pairs. -/
theorem argmin_two (l : List (EReal × BitVec 32)) (a b : ℝ)
    (hl : l = [((a : EReal), 0#32), ((b : EReal), 1#32)] ∨ l = [((b : EReal), 1#32), ((a : EReal), 0#32)]) :
    (l.foldl (reducer_argmin_f32_i32 (F := Ideal)) ((⊤ : EReal), 0#32)).2 = if a ≤ b then 0#32 else 1#32 := by
  have top : ∀ (r : ℝ) (k : BitVec 32), reducer_argmin_f32_i32 (F := Ideal) ((⊤ : EReal), 0#32) ((r : EReal), k) = ((r : EReal), k) := fun r k => by
    have h1 : ¬ ((⊤ : EReal) < (r : EReal)) := not_lt.2 le_top
    have h2 : ¬ ((⊤ : EReal) = (r : EReal)) := (EReal.coe_ne_top r).symm
    unfold reducer_argmin_f32_i32
    simp [Ideal.cmpf_def, Ideal.cmp, h1, h2, IntOp.ori, IntOp.andi, Scalar.select]
  have h01 : IntOp.cmpi .slt 0#32 1#32 = 1#1 := by decide
  have h10 : IntOp.cmpi .slt 1#32 0#32 = 0#1 := by decide
  rcases hl with rfl | rfl
  · rw [List.foldl_cons, top]
    show (reducer_argmin_f32_i32 (F := Ideal) ((a : EReal), 0#32) ((b : EReal), 1#32)).2 = _
    unfold reducer_argmin_f32_i32
    rcases lt_trichotomy a b with q | q | q
    · have q' : (a : EReal) < (b : EReal) := EReal.coe_lt_coe_iff.2 q
      simp [Ideal.cmpf_def, Ideal.cmp, q', q.le, q.ne, IntOp.ori, IntOp.andi, Scalar.select, h01]
    · subst q
      simp [Ideal.cmpf_def, Ideal.cmp, IntOp.ori, IntOp.andi, Scalar.select, h01]
    · have q' : ¬ (a : EReal) < (b : EReal) := not_lt.2 (EReal.coe_le_coe_iff.2 q.le)
      have q'' : ¬ (a : EReal) = (b : EReal) := fun e => q.ne' (EReal.coe_eq_coe_iff.1 e)
      simp [Ideal.cmpf_def, Ideal.cmp, q', q'', not_le.2 q, IntOp.ori, IntOp.andi, Scalar.select]
  · rw [List.foldl_cons, top]
    show (reducer_argmin_f32_i32 (F := Ideal) ((b : EReal), 1#32) ((a : EReal), 0#32)).2 = _
    unfold reducer_argmin_f32_i32
    by_cases q : a ≤ b
    · have q' : ¬ (b : EReal) < (a : EReal) := not_lt.2 (EReal.coe_le_coe_iff.2 q)
      simp [Ideal.cmpf_def, Ideal.cmp, q', q, IntOp.ori, IntOp.andi, Scalar.select, h10]
    · have q' : (b : EReal) < (a : EReal) := EReal.coe_lt_coe_iff.2 (not_le.1 q)
      simp [Ideal.cmpf_def, Ideal.cmp, q', q, (not_le.1 q).ne, IntOp.ori, IntOp.andi, Scalar.select]

/-- The nearer of the two means, the first when both are as near. -/
theorem bucket_apply (d : FVec Ideal S1x12x2048x2 .f32) (h : Fin 12) (i : Fin 2048) (a : Fin 2 → ℝ)
    (ha : ∀ c, d (ix4 0 h i c) = ((a c : ℝ) : EReal)) :
    bucket d (ix3 0 h i) = if a 0 ≤ a 1 then 0#32 else 1#32 := by
  have e : bucket d (ix3 0 h i) = ((Host.argReduceFiber d (iotaInDim S1x12x2048x2 32 3) reducesTo_S1x12x2048x2_S1x12x2048_d3 (ix3 0 h i)).foldl
      (reducer_argmin_f32_i32 (F := Ideal)) ((⊤ : EReal), 0#32)).2 := by
    have e1 := congrFun (Ideal.argReduce_eq_reduce2 (reducer_argmin_f32_i32 (F := Ideal)) d (iotaInDim S1x12x2048x2 32 3)
      (constant S_ .f32 0x7F800000#32) (constantI S_ 32 0#32) reducesTo_S1x12x2048x2_S1x12x2048_d3 h_S_) (ix3 0 h i)
    have e2 := Host.reduce2_eq_foldl_fiber (reducer_argmin_f32_i32 (F := Ideal)) d (iotaInDim S1x12x2048x2 32 3)
      (constant S_ .f32 0x7F800000#32) (constantI S_ 32 0#32) reducesTo_S1x12x2048x2_S1x12x2048_d3 h_S_ (ix3 0 h i)
    refine (congrArg Prod.snd (e1.trans e2)).trans ?_
    generalize Host.argReduceFiber d (iotaInDim S1x12x2048x2 32 3) reducesTo_S1x12x2048x2_S1x12x2048_d3 (ix3 0 h i) = l
    exact congrArg (fun z : EReal => (List.foldl (reducer_argmin_f32_i32 (F := Ideal)) (z, 0#32) l).2) Words.posInf
  rw [e]
  refine argmin_two _ (a 0) (a 1) ?_
  have key := filter_two (Shape.rowMajor S1x12x2048x2).symm (fun i' => reducesTo_S1x12x2048x2_S1x12x2048_d3.drop i' = ix3 0 h i)
    (fun k : Fin 2 => ix4 0 h i k) (fun k k' q => congrFun q 3)
    (fun i' => Shape.ReducesTo.fiber_r4_a3 reducesTo_S1x12x2048x2_S1x12x2048_d3 (ix3 0 h i) i')
    (fun i' => ((d i', iotaInDim S1x12x2048x2 32 3 i') : EReal × BitVec 32))
  have h0 : ((d (ix4 0 h i 0), iotaInDim S1x12x2048x2 32 3 (ix4 0 h i 0)) : EReal × BitVec 32) = ((a 0 : EReal), 0#32) :=
    Prod.ext (ha 0) rfl
  have h1 : ((d (ix4 0 h i 1), iotaInDim S1x12x2048x2 32 3 (ix4 0 h i 1)) : EReal × BitVec 32) = ((a 1 : EReal), 1#32) :=
    Prod.ext (ha 1) rfl
  rw [← h0, ← h1]
  exact key

end Cert.Ref

end
-- ==== Proof.RefLoss.lean ====
/-
  The reference's second result as the function of Answer, its arguments being real numbers.
-/
module

public import proofs.«01_k».proof.Proof.RefDist
public import proofs.«01_k».proof.Proof.RefNear
public import proofs.«01_k».proof.Proof.RefScatter

@[expose] public section

set_option maxRecDepth 16384

noncomputable section

namespace Cert.Ref

open Cert.ReferenceIdeal Cert.ReferenceIdeal.Gen Idealize.ShloMosaic

open Cert.Spec (dot unit eps sqDist nearSq loss sum_coe_mul coe_sum)

/-- The index at which a component of a mean's place is read. -/
theorem meanStart_idx (h : Fin 12) (i : Fin 2048) (d : Fin 64) (k : Fin 2) :
    gather_S12x2x64_S1x12x2048x2_S1x12x2048x64_3_01_n_n_01_3_1164.siIdx (ix4 0 h i d) k = ix4 0 h i k := by
  funext b
  match b with
  | ⟨0, _⟩ => rfl
  | ⟨1, _⟩ => rfl
  | ⟨2, _⟩ => rfl
  | ⟨3, _⟩ => rfl

/-- The mean taken at a head and a cluster. -/
theorem takeMean_apply (x : FVec Ideal S12x2x64 .f32) (idx : IVec S1x12x2048x2 32) (h h' : Fin 12) (i : Fin 2048) (d : Fin 64) (c : Fin 2)
    (h0 : (idx (ix4 0 h i 0)).toInt = h'.val) (h1 : (idx (ix4 0 h i 1)).toInt = c.val) :
    Host.gather gather_S12x2x64_S1x12x2048x2_S1x12x2048x64_3_01_n_n_01_3_1164 x idx (ix4 0 h i d) = x (ix3 h' c d) := by
  unfold Host.gather
  refine congrArg x ?_
  funext a
  match a with
  | ⟨0, _⟩ =>
    apply Fin.ext
    show min (idx (gather_S12x2x64_S1x12x2048x2_S1x12x2048x64_3_01_n_n_01_3_1164.siIdx (ix4 0 h i d) (0 : Fin 2))).toInt.toNat (12 - 1) + 0 + 0 = h'.val
    rw [meanStart_idx, h0]
    omega
  | ⟨1, _⟩ =>
    apply Fin.ext
    show min (idx (gather_S12x2x64_S1x12x2048x2_S1x12x2048x64_3_01_n_n_01_3_1164.siIdx (ix4 0 h i d) (1 : Fin 2))).toInt.toNat (2 - 1) + 0 + 0 = c.val
    rw [meanStart_idx, h1]
    omega
  | ⟨2, _⟩ =>
    apply Fin.ext
    show 0 + 0 + d.val = d.val
    omega

/-- The mean that a token is assigned to. -/
theorem routed_apply (b : IVec S1x12x2048 32) (means : FVec Ideal S12x2x64 .f32) (h : Fin 12) (i : Fin 2048) (d : Fin 64) (c : Fin 2)
    (hb : b (ix3 0 h i) = BitVec.ofNat 32 c.val) : routed b means (ix4 0 h i d) = means (ix3 h c d) := by
  refine takeMean_apply means (meanPlace (headIndex headColumn) (bucketIndex b)) h h i d c ?_ ?_
  · have e : meanPlace (headIndex headColumn) (bucketIndex b) (ix4 0 h i 0)
        = Scalar.select (IntOp.cmpi .slt (BitVec.ofNat 32 h.val) 0#32) (IntOp.addi (BitVec.ofNat 32 h.val) 12#32) (BitVec.ofNat 32 h.val) := by
      pointwise [meanPlace, pairOf, headIndex, headColumn]
    rw [e, Routing.wrap_of_lt _ _ (by rw [BitVec.toNat_ofNat]; have := h.isLt; omega), toInt_head]
  · have e : meanPlace (headIndex headColumn) (bucketIndex b) (ix4 0 h i 1)
        = Scalar.select (IntOp.cmpi .slt (b (ix3 0 h i)) 0#32) (IntOp.addi (b (ix3 0 h i)) 2#32) (b (ix3 0 h i)) := by
      pointwise [meanPlace, pairOf, bucketIndex]
    rw [e, hb, Routing.wrap_of_lt _ _ (by rw [BitVec.toNat_ofNat]; have := c.isLt; omega)]
    exact WordCmp.toInt_ofNat_of_lt (by have := c.isLt; omega)

/-- The mean of all squared differences, times the commitment. -/
theorem auxOf_apply (y r : FVec Ideal S1x12x2048x64 .f32) (j : S_.Idx) :
    auxOf y r j = Ideal.div (∑ h : Fin 12, ∑ i : Fin 2048, ∑ d : Fin 64,
        (y (ix4 0 h i d) - r (ix4 0 h i d)) * (y (ix4 0 h i d) - r (ix4 0 h i d))) (Ideal.ofBits .f32 0x49C00000#32)
      * Ideal.ofBits .f32 0x38D1B717#32 := by
  have e : auxOf y r j = Ideal.div (Ideal.hostReduceAdd reducesTo_S1x12x2048x64_S_d0_1_2_3 (sqErr y r) 0 j)
      (Ideal.ofBits .f32 0x49C00000#32) * Ideal.ofBits .f32 0x38D1B717#32 := by
    unfold auxOf
    generalize sqErr y r = s
    pointwise
  rw [e, Ideal.hostReduceAdd_total _ (fun b => b.elim0), zero_add]
  refine congrArg (fun z => Ideal.div z _ * _) ?_
  refine (sum_idx4 (n0 := 1) (n1 := 12) (n2 := 2048) (n3 := 64) _).trans ?_
  exact (Fin.sum_univ_one _).trans rfl

/-- The second result is the loss. -/
theorem aux_value (q : FVec Ideal S1x2048x768 .f32) (means : FVec Ideal S12x2x64 .f32)
    (Q : Fin 12 → Fin 2048 → Fin 64 → ℝ) (M : Fin 12 → Fin 2 → Fin 64 → ℝ)
    (hQ : ∀ h i d, heads q (ix4 0 h i d) = ((Q h i d : ℝ) : EReal)) (hM : ∀ h p d, means (ix3 h p d) = ((M h p d : ℝ) : EReal)) (j : S_.Idx) :
    aux q means j = ((loss Q M : ℝ) : EReal) := by
  have hU : ∀ h i d, xn q (ix4 0 h i d) = ((unit eps (Q h i) d : ℝ) : EReal) := normed_apply (heads q) Q hQ
  have hD := dists_apply (xn q) means (fun h i => unit eps (Q h i)) M hU hM
  have hrow : ∀ h i, ∑ d : Fin 64, (xn q (ix4 0 h i d) - target q means (ix4 0 h i d)) * (xn q (ix4 0 h i d) - target q means (ix4 0 h i d))
      = ((nearSq (unit eps (Q h i)) (M h) : ℝ) : EReal) := by
    intro h i
    have hb := bucket_apply (dist q means) h i (fun c => Real.sqrt (sqDist (unit eps (Q h i)) (M h c))) (hD h i)
    have row : ∀ c : Fin 2, near q means (ix3 0 h i) = BitVec.ofNat 32 c.val →
        ∑ d : Fin 64, (xn q (ix4 0 h i d) - target q means (ix4 0 h i d)) * (xn q (ix4 0 h i d) - target q means (ix4 0 h i d))
          = ((sqDist (unit eps (Q h i)) (M h c) : ℝ) : EReal) := by
      intro c hc
      have hd : ∀ d, xn q (ix4 0 h i d) - target q means (ix4 0 h i d) = ((unit eps (Q h i) d - M h c d : ℝ) : EReal) := fun d => by
        rw [hU, EReal.coe_sub, ← hM]
        exact congrArg (fun z : EReal => _ - z) (routed_apply (near q means) means h i d c hc)
      exact sum_coe_mul _ _ (fun d => unit eps (Q h i) d - M h c d) (fun d => unit eps (Q h i) d - M h c d) hd hd
    have hle : Real.sqrt (sqDist (unit eps (Q h i)) (M h 0)) ≤ Real.sqrt (sqDist (unit eps (Q h i)) (M h 1))
        ↔ sqDist (unit eps (Q h i)) (M h 0) ≤ sqDist (unit eps (Q h i)) (M h 1) := Real.sqrt_le_sqrt_iff (Spec.sqDist_nonneg _ _)
    unfold nearSq
    by_cases c : sqDist (unit eps (Q h i)) (M h 0) ≤ sqDist (unit eps (Q h i)) (M h 1)
    · rw [if_pos c]
      exact row 0 (hb.trans (if_pos (hle.2 c)))
    · rw [if_neg c]
      exact row 1 (hb.trans (if_neg (mt hle.1 c)))
  have e := auxOf_apply (xn q) (target q means) j
  refine Eq.trans e ?_
  have hs : ∑ h : Fin 12, ∑ i : Fin 2048, ∑ d : Fin 64, (xn q (ix4 0 h i d) - target q means (ix4 0 h i d)) * (xn q (ix4 0 h i d) - target q means (ix4 0 h i d))
      = ((∑ h, ∑ i, nearSq (unit eps (Q h i)) (M h) : ℝ) : EReal) := by
    rw [coe_sum]
    refine Finset.sum_congr rfl fun h _ => ?_
    rw [coe_sum]
    exact Finset.sum_congr rfl fun i _ => hrow h i
  rw [hs, Words.entries, Words.commitment, Ideal.div_coe (by norm_num), ← EReal.coe_mul, ← EReal.coe_mul]
  refine congrArg (fun z : ℝ => (z : EReal)) ?_
  unfold loss
  rw [mul_assoc]
  norm_num

end Cert.Ref

end
-- ==== Proof.Agree.lean ====
/-
  The kernel and the reference agree: from the same arguments, those that the precondition names being real numbers,
  either program's two results are the two functions of Answer.
-/
module

public import proofs.«01_k».proof.Proof.Finite
public import proofs.«01_k».proof.Proof.KerValue
public import proofs.«01_k».proof.Proof.RefAtt
public import proofs.«01_k».proof.Proof.RefLoss

@[expose] public section

set_option maxRecDepth 16384

noncomputable section

namespace Cert.Agree

open Idealize.ShloMosaic Idealize.ShloMosaic.TcCoe Cert.KernelIdeal Cert.KernelIdeal.Gen

/-- The reference's heads are the kernel's. -/
theorem heads_eq (x : FVec Ideal S1x2048x768 .f32) (h : Fin 12) (i : Fin 2048) (d : Fin 64) :
    Cert.Ref.heads x (ix4 0 h i d) = Cert.Ker.headsK x (ix3 h i d) := by
  pointwise [Cert.Ref.heads, Cert.Ker.headsK]

/-- The heads of an array of real numbers. -/
def headsReal (x : FVec Ideal S1x2048x768 .f32) (h : Fin 12) (i : Fin 2048) (d : Fin 64) : ℝ :=
  (Cert.Ker.headsK x (ix3 h i d) : EReal).toReal

theorem headsK_real (x : FVec Ideal S1x2048x768 .f32) (hx : Cert.Finite.AllReal x) (h : Fin 12) (i : Fin 2048) (d : Fin 64) :
    Cert.Ker.headsK x (ix3 h i d) = ((headsReal x h i d : ℝ) : EReal) :=
  hx _

theorem heads_real (x : FVec Ideal S1x2048x768 .f32) (hx : Cert.Finite.AllReal x) (h : Fin 12) (i : Fin 2048) (d : Fin 64) :
    Cert.Ref.heads x (ix4 0 h i d) = ((headsReal x h i d : ℝ) : EReal) :=
  (heads_eq x h i d).trans (headsK_real x hx h i d)

variable (m : (ℓ : Loc nD τ sig) → Buf (Elt Ideal) ℓ) (hm : Cert.Pre_KernelIdeal_finite (hPre_finite := Cert.Finite.facts) m) (c : Dev nD)

include hm

/-- The first results agree. -/
theorem attention_agrees :
    Cert.Ref.result (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      = shapeCast S1x12x2048x64 (Cert.Ker.attArr m c) shapeCasts_S12x2048x64_S1x12x2048x64 := by
  obtain ⟨h0, h1, h2, -, h4⟩ := Cert.Finite.reals m hm c
  funext j
  obtain ⟨z, h, i, d, rfl⟩ : ∃ (z : Fin 1) (h : Fin 12) (i : Fin 2048) (d : Fin 64), j = ix4 z h i d := ⟨_, _, _, _, eq_ix4 j⟩
  obtain rfl : z = 0 := Subsingleton.elim _ _
  exact (Cert.Ref.result_value _ _ _ _ _ _ _ _ _ (fun h p d => (m ((c : Thread nD τ).loc main_arg4) (ix4 h p 0 d) : EReal).toReal)
      (heads_real _ h0) (heads_real _ h1) (heads_real _ h2) (fun h p d => h4 _) h i d).trans
    (Cert.Ker.att_value m c _ _ _ (fun h p d => (m ((c : Thread nD τ).loc main_arg4) (ix4 h p 0 d) : EReal).toReal)
      (headsK_real _ h0) (headsK_real _ h1) (headsK_real _ h2) (fun h p d => h4 _) h i d).symm

/-- The second results agree. -/
theorem loss_agrees :
    Cert.Ref.aux (F := Ideal) (m ((c : Thread nD τ).loc main_arg0)) (m ((c : Thread nD τ).loc main_arg3))
      = Host.reduceAdd (F := Ideal) (φ := .f32) (Cert.Ker.lossArr m c) (constant S_ .f32 0x00000000#32) reducesTo_S12x1x1_S_d0_1_2 h_S_ := by
  obtain ⟨h0, -, -, h3, -⟩ := Cert.Finite.reals m hm c
  funext j
  exact (Cert.Ref.aux_value _ _ _ (fun h p d => (m ((c : Thread nD τ).loc main_arg3) (ix3 h p d) : EReal).toReal)
      (heads_real _ h0) (fun h p d => h3 _) j).trans
    (Cert.Ker.loss_value m c _ (fun h p d => (m ((c : Thread nD τ).loc main_arg3) (ix3 h p d) : EReal).toReal)
      (headsK_real _ h0) (fun h p d => h3 _) j).symm

end Cert.Agree

end
-- ==== Proof.lean ====
/-
  The certificate's proof.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL.Sem

/-- The reference ends with its arguments as they were and, having no semaphore, with every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2, sem_eq_zero_of_no_sems (by decide) r.2⟩) (Cert.Ref.run m g)

/-- The two named constants are the numbers stated for them. -/
theorem preserves : Cert.preserves_Kernel_KernelIdeal :=
  ⟨IdealRules.named_const.statement _ _ .f32 _ _ rfl, IdealRules.named_const.statement _ _ .f32 _ _ rfl⟩

/-- From the same arguments the kernel and the reference end with the same two results. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hm hargs
  refine ⟨_, _, Cert.Ker.run m g, ?_⟩
  refine (θ_run Cert.ReferenceIdeal.defs _ _).mono (fun r h c => ?_) (Cert.Ref.run m' g')
  obtain ⟨h0, h1, hs⟩ := h c
  obtain ⟨a0, a1, a2, a3, a4, a5⟩ := hargs c
  rw [a0, a1, a2, a3, a4, a5] at h0
  rw [a0, a3] at h1
  exact ⟨h0.trans (Cert.Agree.attention_agrees m hm c), h1.trans (Cert.Agree.loss_agrees m hm c), hs⟩

/-- All the claims. -/
theorem claim : Cert.Claim :=
  ⟨Cert.Kernel.Gen.facts, Cert.KernelIdeal.Gen.facts, Cert.ReferenceIdeal.Gen.facts, Cert.Finite.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    preserves, algebraic⟩

end Cert.Proof

end
